-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S8x100x91x28x28 : Shape := ⟨5, ![8, 100, 91, 28, 28]⟩
abbrev S8x100 : Shape := ⟨2, ![8, 100]⟩
abbrev S_ : Shape := ⟨0, ![]⟩

class Facts : Prop where
  bcast_S_S8x100 : S_.BroadcastsInDim S8x100 (![] : Fin 0 → Fin S8x100.rank)
  reducesTo_S8x100_S_d0_1 : S8x100.ReducesTo [0, 1] S_
  h_S_ : 0 < S_.numel

variable [Facts]

def fn {F : FTy → Type} [FloatOps F] (main_arg0 : FVec F S8x100x91x28x28 .f32) (main_arg1 : IVec S8x100 32) : IVec S_ 1 :=
  let main_c : IVec S_ 32 := constantI S_ 32 0#32
  let main_v0 : IVec S8x100 32 := broadcastInDim S8x100 ![] bcast_S_S8x100 main_c
  let main_v1 : IVec S8x100 1 := cmpi .sge main_arg1 main_v0
  let main_c_0 : IVec S_ 32 := constantI S_ 32 91#32
  let main_v2 : IVec S8x100 32 := broadcastInDim S8x100 ![] bcast_S_S8x100 main_c_0
  let main_v3 : IVec S8x100 1 := cmpi .slt main_arg1 main_v2
  let main_v4 : IVec S8x100 1 := andi main_v1 main_v3
  let main_c_1 : IVec S_ 1 := constantI S_ 1 1#1
  let main_v5 : IVec S_ 1 := (fun x v => Host.reduce IntOp.andi x v reducesTo_S8x100_S_d0_1 h_S_) main_v4 main_c_1
  main_v5
-- ==== Kernel.lean ====
abbrev S8x100x91x28x28 : Shape := ⟨5, ![8, 100, 91, 28, 28]⟩
abbrev S8x100 : Shape := ⟨2, ![8, 100]⟩
abbrev S91x28x28x8x100 : Shape := ⟨5, ![91, 28, 28, 8, 100]⟩
abbrev S91x784x8x100 : Shape := ⟨4, ![91, 784, 8, 100]⟩
abbrev S800 : Shape := ⟨1, ![800]⟩
abbrev S480x8x100 : Shape := ⟨3, ![480, 8, 100]⟩
abbrev S91x8x100 : Shape := ⟨3, ![91, 8, 100]⟩
abbrev S15x8x100 : Shape := ⟨3, ![15, 8, 100]⟩
abbrev S_ : Shape := ⟨0, ![]⟩
abbrev S16 : Shape := ⟨1, ![16]⟩
abbrev S91x1x8x100 : Shape := ⟨4, ![91, 1, 8, 100]⟩
abbrev S304x8x100 : Shape := ⟨3, ![304, 8, 100]⟩
abbrev S91x4x8x100 : Shape := ⟨4, ![91, 4, 8, 100]⟩
abbrev S4x8x100 : Shape := ⟨3, ![4, 8, 100]⟩
abbrev S1x4x8x100 : Shape := ⟨4, ![1, 4, 8, 100]⟩
abbrev S1x8x100 : Shape := ⟨3, ![1, 8, 100]⟩
abbrev S784x8x100 : Shape := ⟨3, ![784, 8, 100]⟩
abbrev S28x28x8x100 : Shape := ⟨4, ![28, 28, 8, 100]⟩
abbrev S8x100x28x28 : Shape := ⟨4, ![8, 100, 28, 28]⟩

abbrev nBuf : Table → Nat
  | .hbm => 10
  | .local .tc .vmem => 5
  | .local .scVector .vmem => 3
  | _ => 0

abbrev bufTy : (tb : Table) → Fin (nBuf tb) → BufTy
  | .hbm, ⟨0, _⟩ => ⟨S8x100x91x28x28, .f32⟩
  | .hbm, ⟨1, _⟩ => ⟨S8x100, .i32⟩
  | .hbm, ⟨2, _⟩ => ⟨S91x28x28x8x100, .f32⟩
  | .hbm, ⟨3, _⟩ => ⟨S91x784x8x100, .f32⟩
  | .hbm, ⟨4, _⟩ => ⟨S800, .i32⟩
  | .hbm, ⟨5, _⟩ => ⟨S480x8x100, .f32⟩
  | .hbm, ⟨6, _⟩ => ⟨S304x8x100, .f32⟩
  | .hbm, ⟨7, _⟩ => ⟨S784x8x100, .f32⟩
  | .hbm, ⟨8, _⟩ => ⟨S28x28x8x100, .f32⟩
  | .hbm, ⟨9, _⟩ => ⟨S8x100x28x28, .f32⟩
  | .local .tc .vmem, ⟨0, _⟩ => ⟨S8x100, .i32⟩
  | .local .tc .vmem, ⟨1, _⟩ => ⟨S91x4x8x100, .f32⟩
  | .local .tc .vmem, ⟨2, _⟩ => ⟨S91x4x8x100, .f32⟩
  | .local .tc .vmem, ⟨3, _⟩ => ⟨S4x8x100, .f32⟩
  | .local .tc .vmem, ⟨4, _⟩ => ⟨S4x8x100, .f32⟩
  | .local .scVector .vmem, ⟨0, _⟩ => ⟨S800, .i32⟩
  | .local .scVector .vmem, ⟨1, _⟩ => ⟨S91x8x100, .f32⟩
  | .local .scVector .vmem, ⟨2, _⟩ => ⟨S15x8x100, .f32⟩
  | _, _ => ⟨S8x100x91x28x28, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v1_scv : Ref sig .scVector := ⟨.hbm, 3, rfl⟩
abbrev main_v2_scv : Ref sig .scVector := ⟨.hbm, 4, rfl⟩
abbrev main_v3_scv : Ref sig .scVector := ⟨.hbm, 5, rfl⟩
abbrev cc1_stg0_0 : Ref sig .tc := ⟨.vmem, 0, rfl⟩
abbrev cc1_stg1_0 : Ref sig .tc := ⟨.vmem, 1, rfl⟩
abbrev cc1_stg1_1 : Ref sig .tc := ⟨.vmem, 2, rfl⟩
abbrev cc1_stg2_0 : Ref sig .tc := ⟨.vmem, 3, rfl⟩
abbrev cc1_stg2_1 : Ref sig .tc := ⟨.vmem, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c15_i32_1 : BitVec 32 := 15#32
  let v4 : BitVec 32 := Scalar.addi c0_i32_0 c15_i32_1
  let c1_i32 : BitVec 32 := 1#32
  ⟨c0_i32_0, v4, c1_i32⟩
def k0_off1 (i : grid0.Coords) (k0_t1 : Fin k0_t1_loop.trips) : Fin 4 → Nat :=
  let c0_i32_3 : BitVec 32 := 0#32
  let c304_i32 : BitVec 32 := 304#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15_i32 : BitVec 32 := 15#32
  let v2 : BitVec 32 := Scalar.muli v1 c15_i32
  let v6 : BitVec 32 := Scalar.addi c304_i32 v2
  let c0_i32_0 : BitVec 32 := 0#32
  let c1_i32 : BitVec 32 := 1#32
  let arg9 : BitVec 32 := Scf.iv c0_i32_0 c1_i32 k0_t1
  let v7 : BitVec 32 := Scalar.addi v6 arg9
  let c0_i32_4 : BitVec 32 := 0#32
  let c0_i32_5 : BitVec 32 := 0#32
  ![0, v7.toNat, 0, 0]

def k0_chk1 (v26 : IVec S16 32) (v29 : IVec S16 32) (v30 : IVec S16 32) : Prop :=
  (∀ a x, ((![v30, v26, v29] : Fin 3 → IVec S16 32) a x).toNat < S91x8x100.size a)
theorem k0_idx1_inb : ∀ (v26 : IVec S16 32) (v29 : IVec S16 32) (v30 : IVec S16 32) (k0_hw1 : k0_chk1 v26 v29 v30), ∀ a x, ((![v30, v26, v29] : Fin 3 → IVec S16 32) a x).toNat < S91x8x100.size a := fun v26 v29 v30 k0_hw1 => k0_hw1

def k0_chk2 (v19 : IVec S16 32) (v26 : IVec S16 32) (v29 : IVec S16 32) : Prop :=
  (∀ a x, ((![v19, v26, v29] : Fin 3 → IVec S16 32) a x).toNat < S15x8x100.size a)
theorem k0_idx2_inb : ∀ (v19 : IVec S16 32) (v26 : IVec S16 32) (v29 : IVec S16 32) (k0_hw2 : k0_chk2 v19 v26 v29), ∀ a x, ((![v19, v26, v29] : Fin 3 → IVec S16 32) a x).toNat < S15x8x100.size a := fun v19 v26 v29 k0_hw2 => k0_hw2

def k0_chk3 (v38 : IVec S16 32) (v41 : IVec S16 32) (v42 : IVec S16 32) : Prop :=
  (∀ a x, ((![v42, v38, v41] : Fin 3 → IVec S16 32) a x).toNat < S91x8x100.size a)
theorem k0_idx3_inb : ∀ (v38 : IVec S16 32) (v41 : IVec S16 32) (v42 : IVec S16 32) (k0_hw3 : k0_chk3 v38 v41 v42), ∀ a x, ((![v42, v38, v41] : Fin 3 → IVec S16 32) a x).toNat < S91x8x100.size a := fun v38 v41 v42 k0_hw3 => k0_hw3

def k0_chk4 (v19 : IVec S16 32) (v38 : IVec S16 32) (v41 : IVec S16 32) : Prop :=
  (∀ a x, ((![v19, v38, v41] : Fin 3 → IVec S16 32) a x).toNat < S15x8x100.size a)
theorem k0_idx4_inb : ∀ (v19 : IVec S16 32) (v38 : IVec S16 32) (v41 : IVec S16 32) (k0_hw4 : k0_chk4 v19 v38 v41), ∀ a x, ((![v19, v38, v41] : Fin 3 → IVec S16 32) a x).toNat < S15x8x100.size a := fun v19 v38 v41 k0_hw4 => k0_hw4

def k0_chk5 (v50 : IVec S16 32) (v53 : IVec S16 32) (v54 : IVec S16 32) : Prop :=
  (∀ a x, ((![v54, v50, v53] : Fin 3 → IVec S16 32) a x).toNat < S91x8x100.size a)
theorem k0_idx5_inb : ∀ (v50 : IVec S16 32) (v53 : IVec S16 32) (v54 : IVec S16 32) (k0_hw5 : k0_chk5 v50 v53 v54), ∀ a x, ((![v54, v50, v53] : Fin 3 → IVec S16 32) a x).toNat < S91x8x100.size a := fun v50 v53 v54 k0_hw5 => k0_hw5

def k0_chk6 (v19 : IVec S16 32) (v50 : IVec S16 32) (v53 : IVec S16 32) : Prop :=
  (∀ a x, ((![v19, v50, v53] : Fin 3 → IVec S16 32) a x).toNat < S15x8x100.size a)
theorem k0_idx6_inb : ∀ (v19 : IVec S16 32) (v50 : IVec S16 32) (v53 : IVec S16 32) (k0_hw6 : k0_chk6 v19 v50 v53), ∀ a x, ((![v19, v50, v53] : Fin 3 → IVec S16 32) a x).toNat < S15x8x100.size a := fun v19 v50 v53 k0_hw6 => k0_hw6

def k0_chk7 (v62 : IVec S16 32) (v65 : IVec S16 32) (v66 : IVec S16 32) : Prop :=
  (∀ a x, ((![v66, v62, v65] : Fin 3 → IVec S16 32) a x).toNat < S91x8x100.size a)
theorem k0_idx7_inb : ∀ (v62 : IVec S16 32) (v65 : IVec S16 32) (v66 : IVec S16 32) (k0_hw7 : k0_chk7 v62 v65 v66), ∀ a x, ((![v66, v62, v65] : Fin 3 → IVec S16 32) a x).toNat < S91x8x100.size a := fun v62 v65 v66 k0_hw7 => k0_hw7

def k0_chk8 (v19 : IVec S16 32) (v62 : IVec S16 32) (v65 : IVec S16 32) : Prop :=
  (∀ a x, ((![v19, v62, v65] : Fin 3 → IVec S16 32) a x).toNat < S15x8x100.size a)
theorem k0_idx8_inb : ∀ (v19 : IVec S16 32) (v62 : IVec S16 32) (v65 : IVec S16 32) (k0_hw8 : k0_chk8 v19 v62 v65), ∀ a x, ((![v19, v62, v65] : Fin 3 → IVec S16 32) a x).toNat < S15x8x100.size a := fun v19 v62 v65 k0_hw8 => k0_hw8

def k0_chk9 (v74 : IVec S16 32) (v77 : IVec S16 32) (v78 : IVec S16 32) : Prop :=
  (∀ a x, ((![v78, v74, v77] : Fin 3 → IVec S16 32) a x).toNat < S91x8x100.size a)
theorem k0_idx9_inb : ∀ (v74 : IVec S16 32) (v77 : IVec S16 32) (v78 : IVec S16 32) (k0_hw9 : k0_chk9 v74 v77 v78), ∀ a x, ((![v78, v74, v77] : Fin 3 → IVec S16 32) a x).toNat < S91x8x100.size a := fun v74 v77 v78 k0_hw9 => k0_hw9

def k0_chk10 (v19 : IVec S16 32) (v74 : IVec S16 32) (v77 : IVec S16 32) : Prop :=
  (∀ a x, ((![v19, v74, v77] : Fin 3 → IVec S16 32) a x).toNat < S15x8x100.size a)
theorem k0_idx10_inb : ∀ (v19 : IVec S16 32) (v74 : IVec S16 32) (v77 : IVec S16 32) (k0_hw10 : k0_chk10 v19 v74 v77), ∀ a x, ((![v19, v74, v77] : Fin 3 → IVec S16 32) a x).toNat < S15x8x100.size a := fun v19 v74 v77 k0_hw10 => k0_hw10

def k0_chk11 (v86 : IVec S16 32) (v89 : IVec S16 32) (v90 : IVec S16 32) : Prop :=
  (∀ a x, ((![v90, v86, v89] : Fin 3 → IVec S16 32) a x).toNat < S91x8x100.size a)
theorem k0_idx11_inb : ∀ (v86 : IVec S16 32) (v89 : IVec S16 32) (v90 : IVec S16 32) (k0_hw11 : k0_chk11 v86 v89 v90), ∀ a x, ((![v90, v86, v89] : Fin 3 → IVec S16 32) a x).toNat < S91x8x100.size a := fun v86 v89 v90 k0_hw11 => k0_hw11

def k0_chk12 (v19 : IVec S16 32) (v86 : IVec S16 32) (v89 : IVec S16 32) : Prop :=
  (∀ a x, ((![v19, v86, v89] : Fin 3 → IVec S16 32) a x).toNat < S15x8x100.size a)
theorem k0_idx12_inb : ∀ (v19 : IVec S16 32) (v86 : IVec S16 32) (v89 : IVec S16 32) (k0_hw12 : k0_chk12 v19 v86 v89), ∀ a x, ((![v19, v86, v89] : Fin 3 → IVec S16 32) a x).toNat < S15x8x100.size a := fun v19 v86 v89 k0_hw12 => k0_hw12

def k0_chk13 (v98 : IVec S16 32) (v101 : IVec S16 32) (v102 : IVec S16 32) : Prop :=
  (∀ a x, ((![v102, v98, v101] : Fin 3 → IVec S16 32) a x).toNat < S91x8x100.size a)
theorem k0_idx13_inb : ∀ (v98 : IVec S16 32) (v101 : IVec S16 32) (v102 : IVec S16 32) (k0_hw13 : k0_chk13 v98 v101 v102), ∀ a x, ((![v102, v98, v101] : Fin 3 → IVec S16 32) a x).toNat < S91x8x100.size a := fun v98 v101 v102 k0_hw13 => k0_hw13

def k0_chk14 (v19 : IVec S16 32) (v98 : IVec S16 32) (v101 : IVec S16 32) : Prop :=
  (∀ a x, ((![v19, v98, v101] : Fin 3 → IVec S16 32) a x).toNat < S15x8x100.size a)
theorem k0_idx14_inb : ∀ (v19 : IVec S16 32) (v98 : IVec S16 32) (v101 : IVec S16 32) (k0_hw14 : k0_chk14 v19 v98 v101), ∀ a x, ((![v19, v98, v101] : Fin 3 → IVec S16 32) a x).toNat < S15x8x100.size a := fun v19 v98 v101 k0_hw14 => k0_hw14

def k0_chk15 (v110 : IVec S16 32) (v113 : IVec S16 32) (v114 : IVec S16 32) : Prop :=
  (∀ a x, ((![v114, v110, v113] : Fin 3 → IVec S16 32) a x).toNat < S91x8x100.size a)
theorem k0_idx15_inb : ∀ (v110 : IVec S16 32) (v113 : IVec S16 32) (v114 : IVec S16 32) (k0_hw15 : k0_chk15 v110 v113 v114), ∀ a x, ((![v114, v110, v113] : Fin 3 → IVec S16 32) a x).toNat < S91x8x100.size a := fun v110 v113 v114 k0_hw15 => k0_hw15

def k0_chk16 (v19 : IVec S16 32) (v110 : IVec S16 32) (v113 : IVec S16 32) : Prop :=
  (∀ a x, ((![v19, v110, v113] : Fin 3 → IVec S16 32) a x).toNat < S15x8x100.size a)
theorem k0_idx16_inb : ∀ (v19 : IVec S16 32) (v110 : IVec S16 32) (v113 : IVec S16 32) (k0_hw16 : k0_chk16 v19 v110 v113), ∀ a x, ((![v19, v110, v113] : Fin 3 → IVec S16 32) a x).toNat < S15x8x100.size a := fun v19 v110 v113 k0_hw16 => k0_hw16

def k0_chk17 (v122 : IVec S16 32) (v125 : IVec S16 32) (v126 : IVec S16 32) : Prop :=
  (∀ a x, ((![v126, v122, v125] : Fin 3 → IVec S16 32) a x).toNat < S91x8x100.size a)
theorem k0_idx17_inb : ∀ (v122 : IVec S16 32) (v125 : IVec S16 32) (v126 : IVec S16 32) (k0_hw17 : k0_chk17 v122 v125 v126), ∀ a x, ((![v126, v122, v125] : Fin 3 → IVec S16 32) a x).toNat < S91x8x100.size a := fun v122 v125 v126 k0_hw17 => k0_hw17

def k0_chk18 (v19 : IVec S16 32) (v122 : IVec S16 32) (v125 : IVec S16 32) : Prop :=
  (∀ a x, ((![v19, v122, v125] : Fin 3 → IVec S16 32) a x).toNat < S15x8x100.size a)
theorem k0_idx18_inb : ∀ (v19 : IVec S16 32) (v122 : IVec S16 32) (v125 : IVec S16 32) (k0_hw18 : k0_chk18 v19 v122 v125), ∀ a x, ((![v19, v122, v125] : Fin 3 → IVec S16 32) a x).toNat < S15x8x100.size a := fun v19 v122 v125 k0_hw18 => k0_hw18

def k0_chk19 (v134 : IVec S16 32) (v137 : IVec S16 32) (v138 : IVec S16 32) : Prop :=
  (∀ a x, ((![v138, v134, v137] : Fin 3 → IVec S16 32) a x).toNat < S91x8x100.size a)
theorem k0_idx19_inb : ∀ (v134 : IVec S16 32) (v137 : IVec S16 32) (v138 : IVec S16 32) (k0_hw19 : k0_chk19 v134 v137 v138), ∀ a x, ((![v138, v134, v137] : Fin 3 → IVec S16 32) a x).toNat < S91x8x100.size a := fun v134 v137 v138 k0_hw19 => k0_hw19

def k0_chk20 (v19 : IVec S16 32) (v134 : IVec S16 32) (v137 : IVec S16 32) : Prop :=
  (∀ a x, ((![v19, v134, v137] : Fin 3 → IVec S16 32) a x).toNat < S15x8x100.size a)
theorem k0_idx20_inb : ∀ (v19 : IVec S16 32) (v134 : IVec S16 32) (v137 : IVec S16 32) (k0_hw20 : k0_chk20 v19 v134 v137), ∀ a x, ((![v19, v134, v137] : Fin 3 → IVec S16 32) a x).toNat < S15x8x100.size a := fun v19 v134 v137 k0_hw20 => k0_hw20

def k0_chk21 (v146 : IVec S16 32) (v149 : IVec S16 32) (v150 : IVec S16 32) : Prop :=
  (∀ a x, ((![v150, v146, v149] : Fin 3 → IVec S16 32) a x).toNat < S91x8x100.size a)
theorem k0_idx21_inb : ∀ (v146 : IVec S16 32) (v149 : IVec S16 32) (v150 : IVec S16 32) (k0_hw21 : k0_chk21 v146 v149 v150), ∀ a x, ((![v150, v146, v149] : Fin 3 → IVec S16 32) a x).toNat < S91x8x100.size a := fun v146 v149 v150 k0_hw21 => k0_hw21

def k0_chk22 (v19 : IVec S16 32) (v146 : IVec S16 32) (v149 : IVec S16 32) : Prop :=
  (∀ a x, ((![v19, v146, v149] : Fin 3 → IVec S16 32) a x).toNat < S15x8x100.size a)
theorem k0_idx22_inb : ∀ (v19 : IVec S16 32) (v146 : IVec S16 32) (v149 : IVec S16 32) (k0_hw22 : k0_chk22 v19 v146 v149), ∀ a x, ((![v19, v146, v149] : Fin 3 → IVec S16 32) a x).toNat < S15x8x100.size a := fun v19 v146 v149 k0_hw22 => k0_hw22

def k0_chk23 (v158 : IVec S16 32) (v161 : IVec S16 32) (v162 : IVec S16 32) : Prop :=
  (∀ a x, ((![v162, v158, v161] : Fin 3 → IVec S16 32) a x).toNat < S91x8x100.size a)
theorem k0_idx23_inb : ∀ (v158 : IVec S16 32) (v161 : IVec S16 32) (v162 : IVec S16 32) (k0_hw23 : k0_chk23 v158 v161 v162), ∀ a x, ((![v162, v158, v161] : Fin 3 → IVec S16 32) a x).toNat < S91x8x100.size a := fun v158 v161 v162 k0_hw23 => k0_hw23

def k0_chk24 (v19 : IVec S16 32) (v158 : IVec S16 32) (v161 : IVec S16 32) : Prop :=
  (∀ a x, ((![v19, v158, v161] : Fin 3 → IVec S16 32) a x).toNat < S15x8x100.size a)
theorem k0_idx24_inb : ∀ (v19 : IVec S16 32) (v158 : IVec S16 32) (v161 : IVec S16 32) (k0_hw24 : k0_chk24 v19 v158 v161), ∀ a x, ((![v19, v158, v161] : Fin 3 → IVec S16 32) a x).toNat < S15x8x100.size a := fun v19 v158 v161 k0_hw24 => k0_hw24

def k0_chk25 (v170 : IVec S16 32) (v173 : IVec S16 32) (v174 : IVec S16 32) : Prop :=
  (∀ a x, ((![v174, v170, v173] : Fin 3 → IVec S16 32) a x).toNat < S91x8x100.size a)
theorem k0_idx25_inb : ∀ (v170 : IVec S16 32) (v173 : IVec S16 32) (v174 : IVec S16 32) (k0_hw25 : k0_chk25 v170 v173 v174), ∀ a x, ((![v174, v170, v173] : Fin 3 → IVec S16 32) a x).toNat < S91x8x100.size a := fun v170 v173 v174 k0_hw25 => k0_hw25

def k0_chk26 (v19 : IVec S16 32) (v170 : IVec S16 32) (v173 : IVec S16 32) : Prop :=
  (∀ a x, ((![v19, v170, v173] : Fin 3 → IVec S16 32) a x).toNat < S15x8x100.size a)
theorem k0_idx26_inb : ∀ (v19 : IVec S16 32) (v170 : IVec S16 32) (v173 : IVec S16 32) (k0_hw26 : k0_chk26 v19 v170 v173), ∀ a x, ((![v19, v170, v173] : Fin 3 → IVec S16 32) a x).toNat < S15x8x100.size a := fun v19 v170 v173 k0_hw26 => k0_hw26

def k0_chk27 (v182 : IVec S16 32) (v185 : IVec S16 32) (v186 : IVec S16 32) : Prop :=
  (∀ a x, ((![v186, v182, v185] : Fin 3 → IVec S16 32) a x).toNat < S91x8x100.size a)
theorem k0_idx27_inb : ∀ (v182 : IVec S16 32) (v185 : IVec S16 32) (v186 : IVec S16 32) (k0_hw27 : k0_chk27 v182 v185 v186), ∀ a x, ((![v186, v182, v185] : Fin 3 → IVec S16 32) a x).toNat < S91x8x100.size a := fun v182 v185 v186 k0_hw27 => k0_hw27

def k0_chk28 (v19 : IVec S16 32) (v182 : IVec S16 32) (v185 : IVec S16 32) : Prop :=
  (∀ a x, ((![v19, v182, v185] : Fin 3 → IVec S16 32) a x).toNat < S15x8x100.size a)
theorem k0_idx28_inb : ∀ (v19 : IVec S16 32) (v182 : IVec S16 32) (v185 : IVec S16 32) (k0_hw28 : k0_chk28 v19 v182 v185), ∀ a x, ((![v19, v182, v185] : Fin 3 → IVec S16 32) a x).toNat < S15x8x100.size a := fun v19 v182 v185 k0_hw28 => k0_hw28

def k0_chk29 (v194 : IVec S16 32) (v197 : IVec S16 32) (v198 : IVec S16 32) : Prop :=
  (∀ a x, ((![v198, v194, v197] : Fin 3 → IVec S16 32) a x).toNat < S91x8x100.size a)
theorem k0_idx29_inb : ∀ (v194 : IVec S16 32) (v197 : IVec S16 32) (v198 : IVec S16 32) (k0_hw29 : k0_chk29 v194 v197 v198), ∀ a x, ((![v198, v194, v197] : Fin 3 → IVec S16 32) a x).toNat < S91x8x100.size a := fun v194 v197 v198 k0_hw29 => k0_hw29

def k0_chk30 (v19 : IVec S16 32) (v194 : IVec S16 32) (v197 : IVec S16 32) : Prop :=
  (∀ a x, ((![v19, v194, v197] : Fin 3 → IVec S16 32) a x).toNat < S15x8x100.size a)
theorem k0_idx30_inb : ∀ (v19 : IVec S16 32) (v194 : IVec S16 32) (v197 : IVec S16 32) (k0_hw30 : k0_chk30 v19 v194 v197), ∀ a x, ((![v19, v194, v197] : Fin 3 → IVec S16 32) a x).toNat < S15x8x100.size a := fun v19 v194 v197 k0_hw30 => k0_hw30

def k0_chk31 (v206 : IVec S16 32) (v209 : IVec S16 32) (v210 : IVec S16 32) : Prop :=
  (∀ a x, ((![v210, v206, v209] : Fin 3 → IVec S16 32) a x).toNat < S91x8x100.size a)
theorem k0_idx31_inb : ∀ (v206 : IVec S16 32) (v209 : IVec S16 32) (v210 : IVec S16 32) (k0_hw31 : k0_chk31 v206 v209 v210), ∀ a x, ((![v210, v206, v209] : Fin 3 → IVec S16 32) a x).toNat < S91x8x100.size a := fun v206 v209 v210 k0_hw31 => k0_hw31

def k0_chk32 (v19 : IVec S16 32) (v206 : IVec S16 32) (v209 : IVec S16 32) : Prop :=
  (∀ a x, ((![v19, v206, v209] : Fin 3 → IVec S16 32) a x).toNat < S15x8x100.size a)
theorem k0_idx32_inb : ∀ (v19 : IVec S16 32) (v206 : IVec S16 32) (v209 : IVec S16 32) (k0_hw32 : k0_chk32 v19 v206 v209), ∀ a x, ((![v19, v206, v209] : Fin 3 → IVec S16 32) a x).toNat < S15x8x100.size a := fun v19 v206 v209 k0_hw32 => k0_hw32

def k0_chk33 (v218 : IVec S16 32) (v221 : IVec S16 32) (v222 : IVec S16 32) : Prop :=
  (∀ a x, ((![v222, v218, v221] : Fin 3 → IVec S16 32) a x).toNat < S91x8x100.size a)
theorem k0_idx33_inb : ∀ (v218 : IVec S16 32) (v221 : IVec S16 32) (v222 : IVec S16 32) (k0_hw33 : k0_chk33 v218 v221 v222), ∀ a x, ((![v222, v218, v221] : Fin 3 → IVec S16 32) a x).toNat < S91x8x100.size a := fun v218 v221 v222 k0_hw33 => k0_hw33

def k0_chk34 (v19 : IVec S16 32) (v218 : IVec S16 32) (v221 : IVec S16 32) : Prop :=
  (∀ a x, ((![v19, v218, v221] : Fin 3 → IVec S16 32) a x).toNat < S15x8x100.size a)
theorem k0_idx34_inb : ∀ (v19 : IVec S16 32) (v218 : IVec S16 32) (v221 : IVec S16 32) (k0_hw34 : k0_chk34 v19 v218 v221), ∀ a x, ((![v19, v218, v221] : Fin 3 → IVec S16 32) a x).toNat < S15x8x100.size a := fun v19 v218 v221 k0_hw34 => k0_hw34

def k0_chk35 (v230 : IVec S16 32) (v233 : IVec S16 32) (v234 : IVec S16 32) : Prop :=
  (∀ a x, ((![v234, v230, v233] : Fin 3 → IVec S16 32) a x).toNat < S91x8x100.size a)
theorem k0_idx35_inb : ∀ (v230 : IVec S16 32) (v233 : IVec S16 32) (v234 : IVec S16 32) (k0_hw35 : k0_chk35 v230 v233 v234), ∀ a x, ((![v234, v230, v233] : Fin 3 → IVec S16 32) a x).toNat < S91x8x100.size a := fun v230 v233 v234 k0_hw35 => k0_hw35

def k0_chk36 (v19 : IVec S16 32) (v230 : IVec S16 32) (v233 : IVec S16 32) : Prop :=
  (∀ a x, ((![v19, v230, v233] : Fin 3 → IVec S16 32) a x).toNat < S15x8x100.size a)
theorem k0_idx36_inb : ∀ (v19 : IVec S16 32) (v230 : IVec S16 32) (v233 : IVec S16 32) (k0_hw36 : k0_chk36 v19 v230 v233), ∀ a x, ((![v19, v230, v233] : Fin 3 → IVec S16 32) a x).toNat < S15x8x100.size a := fun v19 v230 v233 k0_hw36 => k0_hw36

def k0_chk37 (v242 : IVec S16 32) (v245 : IVec S16 32) (v246 : IVec S16 32) : Prop :=
  (∀ a x, ((![v246, v242, v245] : Fin 3 → IVec S16 32) a x).toNat < S91x8x100.size a)
theorem k0_idx37_inb : ∀ (v242 : IVec S16 32) (v245 : IVec S16 32) (v246 : IVec S16 32) (k0_hw37 : k0_chk37 v242 v245 v246), ∀ a x, ((![v246, v242, v245] : Fin 3 → IVec S16 32) a x).toNat < S91x8x100.size a := fun v242 v245 v246 k0_hw37 => k0_hw37

def k0_chk38 (v19 : IVec S16 32) (v242 : IVec S16 32) (v245 : IVec S16 32) : Prop :=
  (∀ a x, ((![v19, v242, v245] : Fin 3 → IVec S16 32) a x).toNat < S15x8x100.size a)
theorem k0_idx38_inb : ∀ (v19 : IVec S16 32) (v242 : IVec S16 32) (v245 : IVec S16 32) (k0_hw38 : k0_chk38 v19 v242 v245), ∀ a x, ((![v19, v242, v245] : Fin 3 → IVec S16 32) a x).toNat < S15x8x100.size a := fun v19 v242 v245 k0_hw38 => k0_hw38

def k0_chk39 (v254 : IVec S16 32) (v257 : IVec S16 32) (v258 : IVec S16 32) : Prop :=
  (∀ a x, ((![v258, v254, v257] : Fin 3 → IVec S16 32) a x).toNat < S91x8x100.size a)
theorem k0_idx39_inb : ∀ (v254 : IVec S16 32) (v257 : IVec S16 32) (v258 : IVec S16 32) (k0_hw39 : k0_chk39 v254 v257 v258), ∀ a x, ((![v258, v254, v257] : Fin 3 → IVec S16 32) a x).toNat < S91x8x100.size a := fun v254 v257 v258 k0_hw39 => k0_hw39

def k0_chk40 (v19 : IVec S16 32) (v254 : IVec S16 32) (v257 : IVec S16 32) : Prop :=
  (∀ a x, ((![v19, v254, v257] : Fin 3 → IVec S16 32) a x).toNat < S15x8x100.size a)
theorem k0_idx40_inb : ∀ (v19 : IVec S16 32) (v254 : IVec S16 32) (v257 : IVec S16 32) (k0_hw40 : k0_chk40 v19 v254 v257), ∀ a x, ((![v19, v254, v257] : Fin 3 → IVec S16 32) a x).toNat < S15x8x100.size a := fun v19 v254 v257 k0_hw40 => k0_hw40

def k0_chk41 (v266 : IVec S16 32) (v269 : IVec S16 32) (v270 : IVec S16 32) : Prop :=
  (∀ a x, ((![v270, v266, v269] : Fin 3 → IVec S16 32) a x).toNat < S91x8x100.size a)
theorem k0_idx41_inb : ∀ (v266 : IVec S16 32) (v269 : IVec S16 32) (v270 : IVec S16 32) (k0_hw41 : k0_chk41 v266 v269 v270), ∀ a x, ((![v270, v266, v269] : Fin 3 → IVec S16 32) a x).toNat < S91x8x100.size a := fun v266 v269 v270 k0_hw41 => k0_hw41

def k0_chk42 (v19 : IVec S16 32) (v266 : IVec S16 32) (v269 : IVec S16 32) : Prop :=
  (∀ a x, ((![v19, v266, v269] : Fin 3 → IVec S16 32) a x).toNat < S15x8x100.size a)
theorem k0_idx42_inb : ∀ (v19 : IVec S16 32) (v266 : IVec S16 32) (v269 : IVec S16 32) (k0_hw42 : k0_chk42 v19 v266 v269), ∀ a x, ((![v19, v266, v269] : Fin 3 → IVec S16 32) a x).toNat < S15x8x100.size a := fun v19 v266 v269 k0_hw42 => k0_hw42

def k0_chk43 (v278 : IVec S16 32) (v281 : IVec S16 32) (v282 : IVec S16 32) : Prop :=
  (∀ a x, ((![v282, v278, v281] : Fin 3 → IVec S16 32) a x).toNat < S91x8x100.size a)
theorem k0_idx43_inb : ∀ (v278 : IVec S16 32) (v281 : IVec S16 32) (v282 : IVec S16 32) (k0_hw43 : k0_chk43 v278 v281 v282), ∀ a x, ((![v282, v278, v281] : Fin 3 → IVec S16 32) a x).toNat < S91x8x100.size a := fun v278 v281 v282 k0_hw43 => k0_hw43

def k0_chk44 (v19 : IVec S16 32) (v278 : IVec S16 32) (v281 : IVec S16 32) : Prop :=
  (∀ a x, ((![v19, v278, v281] : Fin 3 → IVec S16 32) a x).toNat < S15x8x100.size a)
theorem k0_idx44_inb : ∀ (v19 : IVec S16 32) (v278 : IVec S16 32) (v281 : IVec S16 32) (k0_hw44 : k0_chk44 v19 v278 v281), ∀ a x, ((![v19, v278, v281] : Fin 3 → IVec S16 32) a x).toNat < S15x8x100.size a := fun v19 v278 v281 k0_hw44 => k0_hw44

def k0_chk45 (v290 : IVec S16 32) (v293 : IVec S16 32) (v294 : IVec S16 32) : Prop :=
  (∀ a x, ((![v294, v290, v293] : Fin 3 → IVec S16 32) a x).toNat < S91x8x100.size a)
theorem k0_idx45_inb : ∀ (v290 : IVec S16 32) (v293 : IVec S16 32) (v294 : IVec S16 32) (k0_hw45 : k0_chk45 v290 v293 v294), ∀ a x, ((![v294, v290, v293] : Fin 3 → IVec S16 32) a x).toNat < S91x8x100.size a := fun v290 v293 v294 k0_hw45 => k0_hw45

def k0_chk46 (v19 : IVec S16 32) (v290 : IVec S16 32) (v293 : IVec S16 32) : Prop :=
  (∀ a x, ((![v19, v290, v293] : Fin 3 → IVec S16 32) a x).toNat < S15x8x100.size a)
theorem k0_idx46_inb : ∀ (v19 : IVec S16 32) (v290 : IVec S16 32) (v293 : IVec S16 32) (k0_hw46 : k0_chk46 v19 v290 v293), ∀ a x, ((![v19, v290, v293] : Fin 3 → IVec S16 32) a x).toNat < S15x8x100.size a := fun v19 v290 v293 k0_hw46 => k0_hw46

def k0_chk47 (v302 : IVec S16 32) (v305 : IVec S16 32) (v306 : IVec S16 32) : Prop :=
  (∀ a x, ((![v306, v302, v305] : Fin 3 → IVec S16 32) a x).toNat < S91x8x100.size a)
theorem k0_idx47_inb : ∀ (v302 : IVec S16 32) (v305 : IVec S16 32) (v306 : IVec S16 32) (k0_hw47 : k0_chk47 v302 v305 v306), ∀ a x, ((![v306, v302, v305] : Fin 3 → IVec S16 32) a x).toNat < S91x8x100.size a := fun v302 v305 v306 k0_hw47 => k0_hw47

def k0_chk48 (v19 : IVec S16 32) (v302 : IVec S16 32) (v305 : IVec S16 32) : Prop :=
  (∀ a x, ((![v19, v302, v305] : Fin 3 → IVec S16 32) a x).toNat < S15x8x100.size a)
theorem k0_idx48_inb : ∀ (v19 : IVec S16 32) (v302 : IVec S16 32) (v305 : IVec S16 32) (k0_hw48 : k0_chk48 v19 v302 v305), ∀ a x, ((![v19, v302, v305] : Fin 3 → IVec S16 32) a x).toNat < S15x8x100.size a := fun v19 v302 v305 k0_hw48 => k0_hw48

def k0_chk49 (v314 : IVec S16 32) (v317 : IVec S16 32) (v318 : IVec S16 32) : Prop :=
  (∀ a x, ((![v318, v314, v317] : Fin 3 → IVec S16 32) a x).toNat < S91x8x100.size a)
theorem k0_idx49_inb : ∀ (v314 : IVec S16 32) (v317 : IVec S16 32) (v318 : IVec S16 32) (k0_hw49 : k0_chk49 v314 v317 v318), ∀ a x, ((![v318, v314, v317] : Fin 3 → IVec S16 32) a x).toNat < S91x8x100.size a := fun v314 v317 v318 k0_hw49 => k0_hw49

def k0_chk50 (v19 : IVec S16 32) (v314 : IVec S16 32) (v317 : IVec S16 32) : Prop :=
  (∀ a x, ((![v19, v314, v317] : Fin 3 → IVec S16 32) a x).toNat < S15x8x100.size a)
theorem k0_idx50_inb : ∀ (v19 : IVec S16 32) (v314 : IVec S16 32) (v317 : IVec S16 32) (k0_hw50 : k0_chk50 v19 v314 v317), ∀ a x, ((![v19, v314, v317] : Fin 3 → IVec S16 32) a x).toNat < S15x8x100.size a := fun v19 v314 v317 k0_hw50 => k0_hw50

def k0_chk51 (v326 : IVec S16 32) (v329 : IVec S16 32) (v330 : IVec S16 32) : Prop :=
  (∀ a x, ((![v330, v326, v329] : Fin 3 → IVec S16 32) a x).toNat < S91x8x100.size a)
theorem k0_idx51_inb : ∀ (v326 : IVec S16 32) (v329 : IVec S16 32) (v330 : IVec S16 32) (k0_hw51 : k0_chk51 v326 v329 v330), ∀ a x, ((![v330, v326, v329] : Fin 3 → IVec S16 32) a x).toNat < S91x8x100.size a := fun v326 v329 v330 k0_hw51 => k0_hw51

def k0_chk52 (v19 : IVec S16 32) (v326 : IVec S16 32) (v329 : IVec S16 32) : Prop :=
  (∀ a x, ((![v19, v326, v329] : Fin 3 → IVec S16 32) a x).toNat < S15x8x100.size a)
theorem k0_idx52_inb : ∀ (v19 : IVec S16 32) (v326 : IVec S16 32) (v329 : IVec S16 32) (k0_hw52 : k0_chk52 v19 v326 v329), ∀ a x, ((![v19, v326, v329] : Fin 3 → IVec S16 32) a x).toNat < S15x8x100.size a := fun v19 v326 v329 k0_hw52 => k0_hw52

def k0_chk53 (v338 : IVec S16 32) (v341 : IVec S16 32) (v342 : IVec S16 32) : Prop :=
  (∀ a x, ((![v342, v338, v341] : Fin 3 → IVec S16 32) a x).toNat < S91x8x100.size a)
theorem k0_idx53_inb : ∀ (v338 : IVec S16 32) (v341 : IVec S16 32) (v342 : IVec S16 32) (k0_hw53 : k0_chk53 v338 v341 v342), ∀ a x, ((![v342, v338, v341] : Fin 3 → IVec S16 32) a x).toNat < S91x8x100.size a := fun v338 v341 v342 k0_hw53 => k0_hw53

def k0_chk54 (v19 : IVec S16 32) (v338 : IVec S16 32) (v341 : IVec S16 32) : Prop :=
  (∀ a x, ((![v19, v338, v341] : Fin 3 → IVec S16 32) a x).toNat < S15x8x100.size a)
theorem k0_idx54_inb : ∀ (v19 : IVec S16 32) (v338 : IVec S16 32) (v341 : IVec S16 32) (k0_hw54 : k0_chk54 v19 v338 v341), ∀ a x, ((![v19, v338, v341] : Fin 3 → IVec S16 32) a x).toNat < S15x8x100.size a := fun v19 v338 v341 k0_hw54 => k0_hw54

def k0_chk55 (v350 : IVec S16 32) (v353 : IVec S16 32) (v354 : IVec S16 32) : Prop :=
  (∀ a x, ((![v354, v350, v353] : Fin 3 → IVec S16 32) a x).toNat < S91x8x100.size a)
theorem k0_idx55_inb : ∀ (v350 : IVec S16 32) (v353 : IVec S16 32) (v354 : IVec S16 32) (k0_hw55 : k0_chk55 v350 v353 v354), ∀ a x, ((![v354, v350, v353] : Fin 3 → IVec S16 32) a x).toNat < S91x8x100.size a := fun v350 v353 v354 k0_hw55 => k0_hw55

def k0_chk56 (v19 : IVec S16 32) (v350 : IVec S16 32) (v353 : IVec S16 32) : Prop :=
  (∀ a x, ((![v19, v350, v353] : Fin 3 → IVec S16 32) a x).toNat < S15x8x100.size a)
theorem k0_idx56_inb : ∀ (v19 : IVec S16 32) (v350 : IVec S16 32) (v353 : IVec S16 32) (k0_hw56 : k0_chk56 v19 v350 v353), ∀ a x, ((![v19, v350, v353] : Fin 3 → IVec S16 32) a x).toNat < S15x8x100.size a := fun v19 v350 v353 k0_hw56 => k0_hw56

def k0_chk57 (v362 : IVec S16 32) (v365 : IVec S16 32) (v366 : IVec S16 32) : Prop :=
  (∀ a x, ((![v366, v362, v365] : Fin 3 → IVec S16 32) a x).toNat < S91x8x100.size a)
theorem k0_idx57_inb : ∀ (v362 : IVec S16 32) (v365 : IVec S16 32) (v366 : IVec S16 32) (k0_hw57 : k0_chk57 v362 v365 v366), ∀ a x, ((![v366, v362, v365] : Fin 3 → IVec S16 32) a x).toNat < S91x8x100.size a := fun v362 v365 v366 k0_hw57 => k0_hw57

def k0_chk58 (v19 : IVec S16 32) (v362 : IVec S16 32) (v365 : IVec S16 32) : Prop :=
  (∀ a x, ((![v19, v362, v365] : Fin 3 → IVec S16 32) a x).toNat < S15x8x100.size a)
theorem k0_idx58_inb : ∀ (v19 : IVec S16 32) (v362 : IVec S16 32) (v365 : IVec S16 32) (k0_hw58 : k0_chk58 v19 v362 v365), ∀ a x, ((![v19, v362, v365] : Fin 3 → IVec S16 32) a x).toNat < S15x8x100.size a := fun v19 v362 v365 k0_hw58 => k0_hw58

def k0_chk59 (v374 : IVec S16 32) (v377 : IVec S16 32) (v378 : IVec S16 32) : Prop :=
  (∀ a x, ((![v378, v374, v377] : Fin 3 → IVec S16 32) a x).toNat < S91x8x100.size a)
theorem k0_idx59_inb : ∀ (v374 : IVec S16 32) (v377 : IVec S16 32) (v378 : IVec S16 32) (k0_hw59 : k0_chk59 v374 v377 v378), ∀ a x, ((![v378, v374, v377] : Fin 3 → IVec S16 32) a x).toNat < S91x8x100.size a := fun v374 v377 v378 k0_hw59 => k0_hw59

def k0_chk60 (v19 : IVec S16 32) (v374 : IVec S16 32) (v377 : IVec S16 32) : Prop :=
  (∀ a x, ((![v19, v374, v377] : Fin 3 → IVec S16 32) a x).toNat < S15x8x100.size a)
theorem k0_idx60_inb : ∀ (v19 : IVec S16 32) (v374 : IVec S16 32) (v377 : IVec S16 32) (k0_hw60 : k0_chk60 v19 v374 v377), ∀ a x, ((![v19, v374, v377] : Fin 3 → IVec S16 32) a x).toNat < S15x8x100.size a := fun v19 v374 v377 k0_hw60 => k0_hw60

def k0_chk61 (v386 : IVec S16 32) (v389 : IVec S16 32) (v390 : IVec S16 32) : Prop :=
  (∀ a x, ((![v390, v386, v389] : Fin 3 → IVec S16 32) a x).toNat < S91x8x100.size a)
theorem k0_idx61_inb : ∀ (v386 : IVec S16 32) (v389 : IVec S16 32) (v390 : IVec S16 32) (k0_hw61 : k0_chk61 v386 v389 v390), ∀ a x, ((![v390, v386, v389] : Fin 3 → IVec S16 32) a x).toNat < S91x8x100.size a := fun v386 v389 v390 k0_hw61 => k0_hw61

def k0_chk62 (v19 : IVec S16 32) (v386 : IVec S16 32) (v389 : IVec S16 32) : Prop :=
  (∀ a x, ((![v19, v386, v389] : Fin 3 → IVec S16 32) a x).toNat < S15x8x100.size a)
theorem k0_idx62_inb : ∀ (v19 : IVec S16 32) (v386 : IVec S16 32) (v389 : IVec S16 32) (k0_hw62 : k0_chk62 v19 v386 v389), ∀ a x, ((![v19, v386, v389] : Fin 3 → IVec S16 32) a x).toNat < S15x8x100.size a := fun v19 v386 v389 k0_hw62 => k0_hw62

def k0_chk63 (v398 : IVec S16 32) (v401 : IVec S16 32) (v402 : IVec S16 32) : Prop :=
  (∀ a x, ((![v402, v398, v401] : Fin 3 → IVec S16 32) a x).toNat < S91x8x100.size a)
theorem k0_idx63_inb : ∀ (v398 : IVec S16 32) (v401 : IVec S16 32) (v402 : IVec S16 32) (k0_hw63 : k0_chk63 v398 v401 v402), ∀ a x, ((![v402, v398, v401] : Fin 3 → IVec S16 32) a x).toNat < S91x8x100.size a := fun v398 v401 v402 k0_hw63 => k0_hw63

def k0_chk64 (v19 : IVec S16 32) (v398 : IVec S16 32) (v401 : IVec S16 32) : Prop :=
  (∀ a x, ((![v19, v398, v401] : Fin 3 → IVec S16 32) a x).toNat < S15x8x100.size a)
theorem k0_idx64_inb : ∀ (v19 : IVec S16 32) (v398 : IVec S16 32) (v401 : IVec S16 32) (k0_hw64 : k0_chk64 v19 v398 v401), ∀ a x, ((![v19, v398, v401] : Fin 3 → IVec S16 32) a x).toNat < S15x8x100.size a := fun v19 v398 v401 k0_hw64 => k0_hw64

def k0_chk65 (v410 : IVec S16 32) (v413 : IVec S16 32) (v414 : IVec S16 32) : Prop :=
  (∀ a x, ((![v414, v410, v413] : Fin 3 → IVec S16 32) a x).toNat < S91x8x100.size a)
theorem k0_idx65_inb : ∀ (v410 : IVec S16 32) (v413 : IVec S16 32) (v414 : IVec S16 32) (k0_hw65 : k0_chk65 v410 v413 v414), ∀ a x, ((![v414, v410, v413] : Fin 3 → IVec S16 32) a x).toNat < S91x8x100.size a := fun v410 v413 v414 k0_hw65 => k0_hw65

def k0_chk66 (v19 : IVec S16 32) (v410 : IVec S16 32) (v413 : IVec S16 32) : Prop :=
  (∀ a x, ((![v19, v410, v413] : Fin 3 → IVec S16 32) a x).toNat < S15x8x100.size a)
theorem k0_idx66_inb : ∀ (v19 : IVec S16 32) (v410 : IVec S16 32) (v413 : IVec S16 32) (k0_hw66 : k0_chk66 v19 v410 v413), ∀ a x, ((![v19, v410, v413] : Fin 3 → IVec S16 32) a x).toNat < S15x8x100.size a := fun v19 v410 v413 k0_hw66 => k0_hw66

def k0_chk67 (v422 : IVec S16 32) (v425 : IVec S16 32) (v426 : IVec S16 32) : Prop :=
  (∀ a x, ((![v426, v422, v425] : Fin 3 → IVec S16 32) a x).toNat < S91x8x100.size a)
theorem k0_idx67_inb : ∀ (v422 : IVec S16 32) (v425 : IVec S16 32) (v426 : IVec S16 32) (k0_hw67 : k0_chk67 v422 v425 v426), ∀ a x, ((![v426, v422, v425] : Fin 3 → IVec S16 32) a x).toNat < S91x8x100.size a := fun v422 v425 v426 k0_hw67 => k0_hw67

def k0_chk68 (v19 : IVec S16 32) (v422 : IVec S16 32) (v425 : IVec S16 32) : Prop :=
  (∀ a x, ((![v19, v422, v425] : Fin 3 → IVec S16 32) a x).toNat < S15x8x100.size a)
theorem k0_idx68_inb : ∀ (v19 : IVec S16 32) (v422 : IVec S16 32) (v425 : IVec S16 32) (k0_hw68 : k0_chk68 v19 v422 v425), ∀ a x, ((![v19, v422, v425] : Fin 3 → IVec S16 32) a x).toNat < S15x8x100.size a := fun v19 v422 v425 k0_hw68 => k0_hw68

def k0_chk69 (v434 : IVec S16 32) (v437 : IVec S16 32) (v438 : IVec S16 32) : Prop :=
  (∀ a x, ((![v438, v434, v437] : Fin 3 → IVec S16 32) a x).toNat < S91x8x100.size a)
theorem k0_idx69_inb : ∀ (v434 : IVec S16 32) (v437 : IVec S16 32) (v438 : IVec S16 32) (k0_hw69 : k0_chk69 v434 v437 v438), ∀ a x, ((![v438, v434, v437] : Fin 3 → IVec S16 32) a x).toNat < S91x8x100.size a := fun v434 v437 v438 k0_hw69 => k0_hw69

def k0_chk70 (v19 : IVec S16 32) (v434 : IVec S16 32) (v437 : IVec S16 32) : Prop :=
  (∀ a x, ((![v19, v434, v437] : Fin 3 → IVec S16 32) a x).toNat < S15x8x100.size a)
theorem k0_idx70_inb : ∀ (v19 : IVec S16 32) (v434 : IVec S16 32) (v437 : IVec S16 32) (k0_hw70 : k0_chk70 v19 v434 v437), ∀ a x, ((![v19, v434, v437] : Fin 3 → IVec S16 32) a x).toNat < S15x8x100.size a := fun v19 v434 v437 k0_hw70 => k0_hw70

def k0_chk71 (v446 : IVec S16 32) (v449 : IVec S16 32) (v450 : IVec S16 32) : Prop :=
  (∀ a x, ((![v450, v446, v449] : Fin 3 → IVec S16 32) a x).toNat < S91x8x100.size a)
theorem k0_idx71_inb : ∀ (v446 : IVec S16 32) (v449 : IVec S16 32) (v450 : IVec S16 32) (k0_hw71 : k0_chk71 v446 v449 v450), ∀ a x, ((![v450, v446, v449] : Fin 3 → IVec S16 32) a x).toNat < S91x8x100.size a := fun v446 v449 v450 k0_hw71 => k0_hw71

def k0_chk72 (v19 : IVec S16 32) (v446 : IVec S16 32) (v449 : IVec S16 32) : Prop :=
  (∀ a x, ((![v19, v446, v449] : Fin 3 → IVec S16 32) a x).toNat < S15x8x100.size a)
theorem k0_idx72_inb : ∀ (v19 : IVec S16 32) (v446 : IVec S16 32) (v449 : IVec S16 32) (k0_hw72 : k0_chk72 v19 v446 v449), ∀ a x, ((![v19, v446, v449] : Fin 3 → IVec S16 32) a x).toNat < S15x8x100.size a := fun v19 v446 v449 k0_hw72 => k0_hw72

def k0_chk73 (v458 : IVec S16 32) (v461 : IVec S16 32) (v462 : IVec S16 32) : Prop :=
  (∀ a x, ((![v462, v458, v461] : Fin 3 → IVec S16 32) a x).toNat < S91x8x100.size a)
theorem k0_idx73_inb : ∀ (v458 : IVec S16 32) (v461 : IVec S16 32) (v462 : IVec S16 32) (k0_hw73 : k0_chk73 v458 v461 v462), ∀ a x, ((![v462, v458, v461] : Fin 3 → IVec S16 32) a x).toNat < S91x8x100.size a := fun v458 v461 v462 k0_hw73 => k0_hw73

def k0_chk74 (v19 : IVec S16 32) (v458 : IVec S16 32) (v461 : IVec S16 32) : Prop :=
  (∀ a x, ((![v19, v458, v461] : Fin 3 → IVec S16 32) a x).toNat < S15x8x100.size a)
theorem k0_idx74_inb : ∀ (v19 : IVec S16 32) (v458 : IVec S16 32) (v461 : IVec S16 32) (k0_hw74 : k0_chk74 v19 v458 v461), ∀ a x, ((![v19, v458, v461] : Fin 3 → IVec S16 32) a x).toNat < S15x8x100.size a := fun v19 v458 v461 k0_hw74 => k0_hw74

def k0_chk75 (v470 : IVec S16 32) (v473 : IVec S16 32) (v474 : IVec S16 32) : Prop :=
  (∀ a x, ((![v474, v470, v473] : Fin 3 → IVec S16 32) a x).toNat < S91x8x100.size a)
theorem k0_idx75_inb : ∀ (v470 : IVec S16 32) (v473 : IVec S16 32) (v474 : IVec S16 32) (k0_hw75 : k0_chk75 v470 v473 v474), ∀ a x, ((![v474, v470, v473] : Fin 3 → IVec S16 32) a x).toNat < S91x8x100.size a := fun v470 v473 v474 k0_hw75 => k0_hw75

def k0_chk76 (v19 : IVec S16 32) (v470 : IVec S16 32) (v473 : IVec S16 32) : Prop :=
  (∀ a x, ((![v19, v470, v473] : Fin 3 → IVec S16 32) a x).toNat < S15x8x100.size a)
theorem k0_idx76_inb : ∀ (v19 : IVec S16 32) (v470 : IVec S16 32) (v473 : IVec S16 32) (k0_hw76 : k0_chk76 v19 v470 v473), ∀ a x, ((![v19, v470, v473] : Fin 3 → IVec S16 32) a x).toNat < S15x8x100.size a := fun v19 v470 v473 k0_hw76 => k0_hw76

def k0_chk77 (v482 : IVec S16 32) (v485 : IVec S16 32) (v486 : IVec S16 32) : Prop :=
  (∀ a x, ((![v486, v482, v485] : Fin 3 → IVec S16 32) a x).toNat < S91x8x100.size a)
theorem k0_idx77_inb : ∀ (v482 : IVec S16 32) (v485 : IVec S16 32) (v486 : IVec S16 32) (k0_hw77 : k0_chk77 v482 v485 v486), ∀ a x, ((![v486, v482, v485] : Fin 3 → IVec S16 32) a x).toNat < S91x8x100.size a := fun v482 v485 v486 k0_hw77 => k0_hw77

def k0_chk78 (v19 : IVec S16 32) (v482 : IVec S16 32) (v485 : IVec S16 32) : Prop :=
  (∀ a x, ((![v19, v482, v485] : Fin 3 → IVec S16 32) a x).toNat < S15x8x100.size a)
theorem k0_idx78_inb : ∀ (v19 : IVec S16 32) (v482 : IVec S16 32) (v485 : IVec S16 32) (k0_hw78 : k0_chk78 v19 v482 v485), ∀ a x, ((![v19, v482, v485] : Fin 3 → IVec S16 32) a x).toNat < S15x8x100.size a := fun v19 v482 v485 k0_hw78 => k0_hw78

def k0_chk79 (v494 : IVec S16 32) (v497 : IVec S16 32) (v498 : IVec S16 32) : Prop :=
  (∀ a x, ((![v498, v494, v497] : Fin 3 → IVec S16 32) a x).toNat < S91x8x100.size a)
theorem k0_idx79_inb : ∀ (v494 : IVec S16 32) (v497 : IVec S16 32) (v498 : IVec S16 32) (k0_hw79 : k0_chk79 v494 v497 v498), ∀ a x, ((![v498, v494, v497] : Fin 3 → IVec S16 32) a x).toNat < S91x8x100.size a := fun v494 v497 v498 k0_hw79 => k0_hw79

def k0_chk80 (v19 : IVec S16 32) (v494 : IVec S16 32) (v497 : IVec S16 32) : Prop :=
  (∀ a x, ((![v19, v494, v497] : Fin 3 → IVec S16 32) a x).toNat < S15x8x100.size a)
theorem k0_idx80_inb : ∀ (v19 : IVec S16 32) (v494 : IVec S16 32) (v497 : IVec S16 32) (k0_hw80 : k0_chk80 v19 v494 v497), ∀ a x, ((![v19, v494, v497] : Fin 3 → IVec S16 32) a x).toNat < S15x8x100.size a := fun v19 v494 v497 k0_hw80 => k0_hw80

def k0_chk81 (v506 : IVec S16 32) (v509 : IVec S16 32) (v510 : IVec S16 32) : Prop :=
  (∀ a x, ((![v510, v506, v509] : Fin 3 → IVec S16 32) a x).toNat < S91x8x100.size a)
theorem k0_idx81_inb : ∀ (v506 : IVec S16 32) (v509 : IVec S16 32) (v510 : IVec S16 32) (k0_hw81 : k0_chk81 v506 v509 v510), ∀ a x, ((![v510, v506, v509] : Fin 3 → IVec S16 32) a x).toNat < S91x8x100.size a := fun v506 v509 v510 k0_hw81 => k0_hw81

def k0_chk82 (v19 : IVec S16 32) (v506 : IVec S16 32) (v509 : IVec S16 32) : Prop :=
  (∀ a x, ((![v19, v506, v509] : Fin 3 → IVec S16 32) a x).toNat < S15x8x100.size a)
theorem k0_idx82_inb : ∀ (v19 : IVec S16 32) (v506 : IVec S16 32) (v509 : IVec S16 32) (k0_hw82 : k0_chk82 v19 v506 v509), ∀ a x, ((![v19, v506, v509] : Fin 3 → IVec S16 32) a x).toNat < S15x8x100.size a := fun v19 v506 v509 k0_hw82 => k0_hw82

def k0_chk83 (v518 : IVec S16 32) (v521 : IVec S16 32) (v522 : IVec S16 32) : Prop :=
  (∀ a x, ((![v522, v518, v521] : Fin 3 → IVec S16 32) a x).toNat < S91x8x100.size a)
theorem k0_idx83_inb : ∀ (v518 : IVec S16 32) (v521 : IVec S16 32) (v522 : IVec S16 32) (k0_hw83 : k0_chk83 v518 v521 v522), ∀ a x, ((![v522, v518, v521] : Fin 3 → IVec S16 32) a x).toNat < S91x8x100.size a := fun v518 v521 v522 k0_hw83 => k0_hw83

def k0_chk84 (v19 : IVec S16 32) (v518 : IVec S16 32) (v521 : IVec S16 32) : Prop :=
  (∀ a x, ((![v19, v518, v521] : Fin 3 → IVec S16 32) a x).toNat < S15x8x100.size a)
theorem k0_idx84_inb : ∀ (v19 : IVec S16 32) (v518 : IVec S16 32) (v521 : IVec S16 32) (k0_hw84 : k0_chk84 v19 v518 v521), ∀ a x, ((![v19, v518, v521] : Fin 3 → IVec S16 32) a x).toNat < S15x8x100.size a := fun v19 v518 v521 k0_hw84 => k0_hw84

def k0_chk85 (v530 : IVec S16 32) (v533 : IVec S16 32) (v534 : IVec S16 32) : Prop :=
  (∀ a x, ((![v534, v530, v533] : Fin 3 → IVec S16 32) a x).toNat < S91x8x100.size a)
theorem k0_idx85_inb : ∀ (v530 : IVec S16 32) (v533 : IVec S16 32) (v534 : IVec S16 32) (k0_hw85 : k0_chk85 v530 v533 v534), ∀ a x, ((![v534, v530, v533] : Fin 3 → IVec S16 32) a x).toNat < S91x8x100.size a := fun v530 v533 v534 k0_hw85 => k0_hw85

def k0_chk86 (v19 : IVec S16 32) (v530 : IVec S16 32) (v533 : IVec S16 32) : Prop :=
  (∀ a x, ((![v19, v530, v533] : Fin 3 → IVec S16 32) a x).toNat < S15x8x100.size a)
theorem k0_idx86_inb : ∀ (v19 : IVec S16 32) (v530 : IVec S16 32) (v533 : IVec S16 32) (k0_hw86 : k0_chk86 v19 v530 v533), ∀ a x, ((![v19, v530, v533] : Fin 3 → IVec S16 32) a x).toNat < S15x8x100.size a := fun v19 v530 v533 k0_hw86 => k0_hw86

def k0_chk87 (v542 : IVec S16 32) (v545 : IVec S16 32) (v546 : IVec S16 32) : Prop :=
  (∀ a x, ((![v546, v542, v545] : Fin 3 → IVec S16 32) a x).toNat < S91x8x100.size a)
theorem k0_idx87_inb : ∀ (v542 : IVec S16 32) (v545 : IVec S16 32) (v546 : IVec S16 32) (k0_hw87 : k0_chk87 v542 v545 v546), ∀ a x, ((![v546, v542, v545] : Fin 3 → IVec S16 32) a x).toNat < S91x8x100.size a := fun v542 v545 v546 k0_hw87 => k0_hw87

def k0_chk88 (v19 : IVec S16 32) (v542 : IVec S16 32) (v545 : IVec S16 32) : Prop :=
  (∀ a x, ((![v19, v542, v545] : Fin 3 → IVec S16 32) a x).toNat < S15x8x100.size a)
theorem k0_idx88_inb : ∀ (v19 : IVec S16 32) (v542 : IVec S16 32) (v545 : IVec S16 32) (k0_hw88 : k0_chk88 v19 v542 v545), ∀ a x, ((![v19, v542, v545] : Fin 3 → IVec S16 32) a x).toNat < S15x8x100.size a := fun v19 v542 v545 k0_hw88 => k0_hw88

def k0_chk89 (v554 : IVec S16 32) (v557 : IVec S16 32) (v558 : IVec S16 32) : Prop :=
  (∀ a x, ((![v558, v554, v557] : Fin 3 → IVec S16 32) a x).toNat < S91x8x100.size a)
theorem k0_idx89_inb : ∀ (v554 : IVec S16 32) (v557 : IVec S16 32) (v558 : IVec S16 32) (k0_hw89 : k0_chk89 v554 v557 v558), ∀ a x, ((![v558, v554, v557] : Fin 3 → IVec S16 32) a x).toNat < S91x8x100.size a := fun v554 v557 v558 k0_hw89 => k0_hw89

def k0_chk90 (v19 : IVec S16 32) (v554 : IVec S16 32) (v557 : IVec S16 32) : Prop :=
  (∀ a x, ((![v19, v554, v557] : Fin 3 → IVec S16 32) a x).toNat < S15x8x100.size a)
theorem k0_idx90_inb : ∀ (v19 : IVec S16 32) (v554 : IVec S16 32) (v557 : IVec S16 32) (k0_hw90 : k0_chk90 v19 v554 v557), ∀ a x, ((![v19, v554, v557] : Fin 3 → IVec S16 32) a x).toNat < S15x8x100.size a := fun v19 v554 v557 k0_hw90 => k0_hw90

def k0_chk91 (v566 : IVec S16 32) (v569 : IVec S16 32) (v570 : IVec S16 32) : Prop :=
  (∀ a x, ((![v570, v566, v569] : Fin 3 → IVec S16 32) a x).toNat < S91x8x100.size a)
theorem k0_idx91_inb : ∀ (v566 : IVec S16 32) (v569 : IVec S16 32) (v570 : IVec S16 32) (k0_hw91 : k0_chk91 v566 v569 v570), ∀ a x, ((![v570, v566, v569] : Fin 3 → IVec S16 32) a x).toNat < S91x8x100.size a := fun v566 v569 v570 k0_hw91 => k0_hw91

def k0_chk92 (v19 : IVec S16 32) (v566 : IVec S16 32) (v569 : IVec S16 32) : Prop :=
  (∀ a x, ((![v19, v566, v569] : Fin 3 → IVec S16 32) a x).toNat < S15x8x100.size a)
theorem k0_idx92_inb : ∀ (v19 : IVec S16 32) (v566 : IVec S16 32) (v569 : IVec S16 32) (k0_hw92 : k0_chk92 v19 v566 v569), ∀ a x, ((![v19, v566, v569] : Fin 3 → IVec S16 32) a x).toNat < S15x8x100.size a := fun v19 v566 v569 k0_hw92 => k0_hw92

def k0_chk93 (v578 : IVec S16 32) (v581 : IVec S16 32) (v582 : IVec S16 32) : Prop :=
  (∀ a x, ((![v582, v578, v581] : Fin 3 → IVec S16 32) a x).toNat < S91x8x100.size a)
theorem k0_idx93_inb : ∀ (v578 : IVec S16 32) (v581 : IVec S16 32) (v582 : IVec S16 32) (k0_hw93 : k0_chk93 v578 v581 v582), ∀ a x, ((![v582, v578, v581] : Fin 3 → IVec S16 32) a x).toNat < S91x8x100.size a := fun v578 v581 v582 k0_hw93 => k0_hw93

def k0_chk94 (v19 : IVec S16 32) (v578 : IVec S16 32) (v581 : IVec S16 32) : Prop :=
  (∀ a x, ((![v19, v578, v581] : Fin 3 → IVec S16 32) a x).toNat < S15x8x100.size a)
theorem k0_idx94_inb : ∀ (v19 : IVec S16 32) (v578 : IVec S16 32) (v581 : IVec S16 32) (k0_hw94 : k0_chk94 v19 v578 v581), ∀ a x, ((![v19, v578, v581] : Fin 3 → IVec S16 32) a x).toNat < S15x8x100.size a := fun v19 v578 v581 k0_hw94 => k0_hw94

def k0_chk95 (v590 : IVec S16 32) (v593 : IVec S16 32) (v594 : IVec S16 32) : Prop :=
  (∀ a x, ((![v594, v590, v593] : Fin 3 → IVec S16 32) a x).toNat < S91x8x100.size a)
theorem k0_idx95_inb : ∀ (v590 : IVec S16 32) (v593 : IVec S16 32) (v594 : IVec S16 32) (k0_hw95 : k0_chk95 v590 v593 v594), ∀ a x, ((![v594, v590, v593] : Fin 3 → IVec S16 32) a x).toNat < S91x8x100.size a := fun v590 v593 v594 k0_hw95 => k0_hw95

def k0_chk96 (v19 : IVec S16 32) (v590 : IVec S16 32) (v593 : IVec S16 32) : Prop :=
  (∀ a x, ((![v19, v590, v593] : Fin 3 → IVec S16 32) a x).toNat < S15x8x100.size a)
theorem k0_idx96_inb : ∀ (v19 : IVec S16 32) (v590 : IVec S16 32) (v593 : IVec S16 32) (k0_hw96 : k0_chk96 v19 v590 v593), ∀ a x, ((![v19, v590, v593] : Fin 3 → IVec S16 32) a x).toNat < S15x8x100.size a := fun v19 v590 v593 k0_hw96 => k0_hw96

def k0_chk97 (v602 : IVec S16 32) (v605 : IVec S16 32) (v606 : IVec S16 32) : Prop :=
  (∀ a x, ((![v606, v602, v605] : Fin 3 → IVec S16 32) a x).toNat < S91x8x100.size a)
theorem k0_idx97_inb : ∀ (v602 : IVec S16 32) (v605 : IVec S16 32) (v606 : IVec S16 32) (k0_hw97 : k0_chk97 v602 v605 v606), ∀ a x, ((![v606, v602, v605] : Fin 3 → IVec S16 32) a x).toNat < S91x8x100.size a := fun v602 v605 v606 k0_hw97 => k0_hw97

def k0_chk98 (v19 : IVec S16 32) (v602 : IVec S16 32) (v605 : IVec S16 32) : Prop :=
  (∀ a x, ((![v19, v602, v605] : Fin 3 → IVec S16 32) a x).toNat < S15x8x100.size a)
theorem k0_idx98_inb : ∀ (v19 : IVec S16 32) (v602 : IVec S16 32) (v605 : IVec S16 32) (k0_hw98 : k0_chk98 v19 v602 v605), ∀ a x, ((![v19, v602, v605] : Fin 3 → IVec S16 32) a x).toNat < S15x8x100.size a := fun v19 v602 v605 k0_hw98 => k0_hw98

def k0_chk99 (v614 : IVec S16 32) (v617 : IVec S16 32) (v618 : IVec S16 32) : Prop :=
  (∀ a x, ((![v618, v614, v617] : Fin 3 → IVec S16 32) a x).toNat < S91x8x100.size a)
theorem k0_idx99_inb : ∀ (v614 : IVec S16 32) (v617 : IVec S16 32) (v618 : IVec S16 32) (k0_hw99 : k0_chk99 v614 v617 v618), ∀ a x, ((![v618, v614, v617] : Fin 3 → IVec S16 32) a x).toNat < S91x8x100.size a := fun v614 v617 v618 k0_hw99 => k0_hw99

def k0_chk100 (v19 : IVec S16 32) (v614 : IVec S16 32) (v617 : IVec S16 32) : Prop :=
  (∀ a x, ((![v19, v614, v617] : Fin 3 → IVec S16 32) a x).toNat < S15x8x100.size a)
theorem k0_idx100_inb : ∀ (v19 : IVec S16 32) (v614 : IVec S16 32) (v617 : IVec S16 32) (k0_hw100 : k0_chk100 v19 v614 v617), ∀ a x, ((![v19, v614, v617] : Fin 3 → IVec S16 32) a x).toNat < S15x8x100.size a := fun v19 v614 v617 k0_hw100 => k0_hw100
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15_i32 : BitVec 32 := 15#32
  let v2 : BitVec 32 := Scalar.muli v1 c15_i32
  let c0_i32_3_r1 : BitVec 32 := 0#32
  let c0_i32_4_r1 : BitVec 32 := 0#32
  ![v2.toNat, 0, 0]
abbrev grid1 : Pipeline.Grid := ⟨1, ![76], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S8x100 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S91x4x8x100 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4x8x100 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x100x91x28x28 : Shape := ⟨5, ![8, 100, 91, 28, 28]⟩
abbrev S8x100 : Shape := ⟨2, ![8, 100]⟩
abbrev S8 : Shape := ⟨1, ![8]⟩
abbrev S8x1 : Shape := ⟨2, ![8, 1]⟩
abbrev S_ : Shape := ⟨0, ![]⟩
abbrev S1x100 : Shape := ⟨2, ![1, 100]⟩
abbrev S100 : Shape := ⟨1, ![100]⟩
abbrev S8x100x1 : Shape := ⟨3, ![8, 100, 1]⟩
abbrev S8x100x3 : Shape := ⟨3, ![8, 100, 3]⟩
abbrev S8x100x28x28 : Shape := ⟨4, ![8, 100, 28, 28]⟩

abbrev nBuf : Space → Nat
  | .hbm => 42
  | .vmem => 0
  | .smem => 0
  | _ => 0

abbrev bufTy : (tb : Table) → Fin (tcTables nBuf tb) → BufTy
  | .hbm, ⟨0, _⟩ => ⟨S8x100x91x28x28, .f32⟩
  | .hbm, ⟨1, _⟩ => ⟨S8x100, .i32⟩
  | .hbm, ⟨2, _⟩ => ⟨S8, .i32⟩
  | .hbm, ⟨3, _⟩ => ⟨S8x1, .i32⟩
  | .hbm, ⟨4, _⟩ => ⟨S_, .i32⟩
  | .hbm, ⟨5, _⟩ => ⟨S1x100, .i32⟩
  | .hbm, ⟨6, _⟩ => ⟨S8x100, .i32⟩
  | .hbm, ⟨7, _⟩ => ⟨S8x100, .i32⟩
  | .hbm, ⟨8, _⟩ => ⟨S8x100, .i32⟩
  | .hbm, ⟨9, _⟩ => ⟨S100, .i32⟩
  | .hbm, ⟨10, _⟩ => ⟨S1x100, .i32⟩
  | .hbm, ⟨11, _⟩ => ⟨S_, .i32⟩
  | .hbm, ⟨12, _⟩ => ⟨S8x1, .i32⟩
  | .hbm, ⟨13, _⟩ => ⟨S8x100, .i32⟩
  | .hbm, ⟨14, _⟩ => ⟨S8x100, .i32⟩
  | .hbm, ⟨15, _⟩ => ⟨S8x100, .i32⟩
  | .hbm, ⟨16, _⟩ => ⟨S_, .i32⟩
  | .hbm, ⟨17, _⟩ => ⟨S8x100, .i32⟩
  | .hbm, ⟨18, _⟩ => ⟨S8x100, .i1⟩
  | .hbm, ⟨19, _⟩ => ⟨S_, .i32⟩
  | .hbm, ⟨20, _⟩ => ⟨S8x100, .i32⟩
  | .hbm, ⟨21, _⟩ => ⟨S8x100, .i32⟩
  | .hbm, ⟨22, _⟩ => ⟨S8x100, .i32⟩
  | .hbm, ⟨23, _⟩ => ⟨S_, .i32⟩
  | .hbm, ⟨24, _⟩ => ⟨S8x100, .i32⟩
  | .hbm, ⟨25, _⟩ => ⟨S8x100, .i1⟩
  | .hbm, ⟨26, _⟩ => ⟨S_, .i32⟩
  | .hbm, ⟨27, _⟩ => ⟨S8x100, .i32⟩
  | .hbm, ⟨28, _⟩ => ⟨S8x100, .i32⟩
  | .hbm, ⟨29, _⟩ => ⟨S8x100, .i32⟩
  | .hbm, ⟨30, _⟩ => ⟨S_, .i32⟩
  | .hbm, ⟨31, _⟩ => ⟨S8x100, .i32⟩
  | .hbm, ⟨32, _⟩ => ⟨S8x100, .i1⟩
  | .hbm, ⟨33, _⟩ => ⟨S_, .i32⟩
  | .hbm, ⟨34, _⟩ => ⟨S8x100, .i32⟩
  | .hbm, ⟨35, _⟩ => ⟨S8x100, .i32⟩
  | .hbm, ⟨36, _⟩ => ⟨S8x100, .i32⟩
  | .hbm, ⟨37, _⟩ => ⟨S8x100x1, .i32⟩
  | .hbm, ⟨38, _⟩ => ⟨S8x100x1, .i32⟩
  | .hbm, ⟨39, _⟩ => ⟨S8x100x1, .i32⟩
  | .hbm, ⟨40, _⟩ => ⟨S8x100x3, .i32⟩
  | .hbm, ⟨41, _⟩ => ⟨S8x100x28x28, .f32⟩
  | _, _ => ⟨S8x100x91x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c_1 : Ref sig .tc := ⟨.hbm, 16, rfl⟩
abbrev main_v12 : Ref sig .tc := ⟨.hbm, 17, rfl⟩
abbrev main_v13 : Ref sig .tc := ⟨.hbm, 18, rfl⟩
abbrev main_c_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_3 : Ref sig .tc := ⟨.hbm, 23, rfl⟩
abbrev main_v17 : Ref sig .tc := ⟨.hbm, 24, rfl⟩
abbrev main_v18 : Ref sig .tc := ⟨.hbm, 25, rfl⟩
abbrev main_c_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_5 : Ref sig .tc := ⟨.hbm, 30, rfl⟩
abbrev main_v22 : Ref sig .tc := ⟨.hbm, 31, rfl⟩
abbrev main_v23 : Ref sig .tc := ⟨.hbm, 32, rfl⟩
abbrev main_c_6 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Proof.Vals.lean ====
/-
  The values the kernel computes, apart from any run of it.

  The masks are read as planes: `X (c, y, b, n)` is the value of class `c` at the position `y` (of 28·28) for the
  box `n` of image `b`; the classes are read as one list `C` of 800 words, the box `n` of image `b` at `100·b + n`.
  `pick X C y b n` is the value the program has to deliver: the plane of the class of box `(b, n)`, at `y`.
  Below it stand the contents of the tile's buffers between two blocks of sixteen boxes.
-/
module

public import Idealize.ShloMosaic.Lib.SparseCore.Ops

@[expose] public section

noncomputable section

namespace Cert.Proof.Vals

open Idealize.ShloMosaic

abbrev Planes : Shape := ⟨4, ![91, 784, 8, 100]⟩
abbrev Stage : Shape := ⟨3, ![91, 8, 100]⟩
abbrev Rows (r : ℕ) : Shape := ⟨3, ![r, 8, 100]⟩
abbrev Flat : Shape := ⟨1, ![800]⟩
abbrev Lanes : Shape := ⟨1, ![16]⟩

/-- The multi-index of `Planes` with the given coordinates (each taken modulo its extent). -/
def ix4 (c y b n : ℕ) : Planes.Idx := fun
  | 0 => Fin.ofNat 91 c
  | 1 => Fin.ofNat 784 y
  | 2 => Fin.ofNat 8 b
  | 3 => Fin.ofNat 100 n

/-- The multi-index of `Flat` with the given coordinate (modulo 800). -/
def ix1 (p : ℕ) : Flat.Idx := fun | 0 => Fin.ofNat 800 p

/-- A multi-index of `Planes` is the one with its coordinates. -/
theorem eq_ix4 (i : Planes.Idx) (c y b n : ℕ) (hc : (i 0).val = c) (hy : (i 1).val = y) (hb : (i 2).val = b) (hn : (i 3).val = n) :
    i = ix4 c y b n := by
  funext a
  match a with
  | 0 => subst hc; exact Fin.ext (Nat.mod_eq_of_lt (i 0).isLt).symm
  | 1 => subst hy; exact Fin.ext (Nat.mod_eq_of_lt (i 1).isLt).symm
  | 2 => subst hb; exact Fin.ext (Nat.mod_eq_of_lt (i 2).isLt).symm
  | 3 => subst hn; exact Fin.ext (Nat.mod_eq_of_lt (i 3).isLt).symm

/-- A multi-index of `Flat` is the one with its coordinate. -/
theorem eq_ix1 (i : Flat.Idx) (p : ℕ) (hp : (i 0).val = p) : i = ix1 p := by
  funext a
  match a with
  | 0 => subst hp; exact Fin.ext (Nat.mod_eq_of_lt (i 0).isLt).symm

variable {α : Type}

/-- The value delivered for box `n` of image `b` at position `y`: the plane of the box's class. -/
def pick (X : Planes.Idx → α) (C : Flat.Idx → BitVec 32) (y b n : ℕ) : α := X (ix4 (C (ix1 (100 * b + n))).toNat y b n)

/-- The `r` rows delivered from position `base` on. -/
def rows (X : Planes.Idx → α) (C : Flat.Idx → BitVec 32) (base r : ℕ) : (Rows r).Idx → α :=
  fun z => pick X C (base + (z 0).val) (z 1).val (z 2).val

/-- The stage of position `y`: the planes of all classes there. -/
def stage (X : Planes.Idx → α) (y : ℕ) : Stage.Idx → α := fun z => X (ix4 (z 0).val y (z 1).val (z 2).val)

/-- The contents of a tile's fifteen rows when the rows before `j` are complete and row `j` is up to its box `p`;
    elsewhere they are `f`. -/
def part (X : Planes.Idx → α) (C : Flat.Idx → BitVec 32) (base j p : ℕ) (f : (Rows 15).Idx → α) : (Rows 15).Idx → α :=
  fun z => if (z 0).val < j ∨ ((z 0).val = j ∧ 100 * (z 1).val + (z 2).val < p) then pick X C (base + (z 0).val) (z 1).val (z 2).val else f z

theorem part_zero (X : Planes.Idx → α) (C : Flat.Idx → BitVec 32) (base : ℕ) (f : (Rows 15).Idx → α) : part X C base 0 0 f = f := by
  funext z; unfold part; rw [if_neg]; omega

/-- A row up to its last box is a complete row. -/
theorem part_next (X : Planes.Idx → α) (C : Flat.Idx → BitVec 32) (base j : ℕ) (f : (Rows 15).Idx → α) :
    part X C base j 800 f = part X C base (j + 1) 0 f := by
  funext z; unfold part
  have h1 : (z 1).val < 8 := (z 1).isLt
  have h2 : (z 2).val < 100 := (z 2).isLt
  refine if_congr ?_ rfl rfl
  omega

/-- Fifteen complete rows are the rows delivered. -/
theorem part_all (X : Planes.Idx → α) (C : Flat.Idx → BitVec 32) (base : ℕ) (f : (Rows 15).Idx → α) :
    part X C base 15 0 f = rows X C base 15 := by
  funext z; unfold part rows
  have h0 : (z 0).val < 15 := (z 0).isLt
  rw [if_pos (Or.inl h0)]

/-! ## The indexed store -/

section Store

variable {F : FTy → Type} [FloatOps F] {s : Shape} {e : EltTy} {d : Fin 1 → ℕ}

/-- One lane's step of an unmasked indexed store keeps the goal at the elements where it is already met. -/
theorem storeIdx_fold (f g : Vec F s e) (idxs : Fin s.rank → IVec ⟨1, d⟩ 32) (v : Vec F ⟨1, d⟩ e)
    (h : ∀ a x, (idxs a x).toNat < s.size a) (hg : ∀ k : Fin (d 0), g (idxAt idxs h (Shape.ofLane k)) = v (Shape.ofLane k)) (j : s.Idx)
    (l : List (Fin (d 0))) (hj : f j = g j ∨ ∃ k ∈ l, idxAt idxs h (Shape.ofLane k) = j) :
    l.foldl (fun g k =>
      let x := Shape.ofLane k
      if (fun _ => 1#1 : IVec ⟨1, d⟩ 1) x = 1 then
        let i := idxAt idxs h x
        let y := if false then Elt.idxAdd e (g i) (v x) else v x
        fun j => if (∀ a, (j a).val = (i a).val) then y else g j
      else g) f j = g j := by
  induction l generalizing f with
  | nil => rcases hj with hj | ⟨k, hk, _⟩; exacts [hj, absurd hk List.not_mem_nil]
  | cons k l ih =>
    rw [List.foldl_cons]
    refine ih _ ?_
    dsimp only
    rw [if_pos (show (1#1 : BitVec 1) = 1 from rfl)]
    by_cases hk : ∀ a, (j a).val = (idxAt idxs h (Shape.ofLane k) a).val
    · left
      rw [if_pos hk, if_neg Bool.false_ne_true, ← hg k]
      exact congrArg g (funext fun a => Fin.ext (hk a).symm)
    · rw [if_neg hk]
      rcases hj with hj | ⟨k', hk', e'⟩
      · exact .inl hj
      · rcases List.mem_cons.mp hk' with rfl | hk'
        · exact absurd (fun a => by rw [e']) hk
        · exact .inr ⟨k', hk', e'⟩

/-- An unmasked indexed store is any contents `g` that have the stored values at the lanes' indices and the old
    values elsewhere. -/
theorem storeIdx_eq (f g : Vec F s e) (idxs : Fin s.rank → IVec ⟨1, d⟩ 32) (v : Vec F ⟨1, d⟩ e)
    (h : ∀ a x, (idxs a x).toNat < s.size a) (hg : ∀ k : Fin (d 0), g (idxAt idxs h (Shape.ofLane k)) = v (Shape.ofLane k))
    (hf : ∀ j, (∀ k : Fin (d 0), idxAt idxs h (Shape.ofLane k) ≠ j) → f j = g j) :
    storeIdx f idxs v (fun _ => 1#1) false h = g := by
  funext j
  refine storeIdx_fold f g idxs v h hg j (List.finRange (d 0)) ?_
  by_cases hj : ∃ k : Fin (d 0), idxAt idxs h (Shape.ofLane k) = j
  · obtain ⟨k, hk⟩ := hj
    exact .inr ⟨k, List.mem_finRange k, hk⟩
  · exact .inl (hf j fun k hk => hj ⟨k, hk⟩)

end Store

/-! ## One block of sixteen boxes -/

section Block

variable {F : FTy → Type} [FloatOps F]

/-- A block's gather and scatter: from the stage of position `base + j` the values of the boxes `16·k …` of row `j`
    are stored, each box's from the plane of its class. -/
theorem block_step (X : Planes.Idx → Elt F .f32) (C : Flat.Idx → BitVec 32) (base j k : ℕ) (hk : k < 50) (hj : j < 15)
    (f : (Rows 15).Idx → Elt F .f32) (vj vb vr cls : IVec Lanes 32)
    (hvj : ∀ x, vj x = BitVec.ofNat 32 j) (hvb : ∀ x : Lanes.Idx, vb x = BitVec.ofNat 32 ((16 * k + (x 0).val) / 100))
    (hvr : ∀ x : Lanes.Idx, vr x = BitVec.ofNat 32 ((16 * k + (x 0).val) % 100)) (hcls : ∀ x : Lanes.Idx, cls x = C (ix1 (16 * k + (x 0).val)))
    (h1 : ∀ a x, ((![cls, vb, vr] : Fin 3 → IVec Lanes 32) a x).toNat < Stage.size a)
    (h2 : ∀ a x, ((![vj, vb, vr] : Fin 3 → IVec Lanes 32) a x).toNat < (Rows 15).size a) :
    storeIdx (F := F) (e := .f32) (s := Rows 15) (d := ![16]) (part X C base j (16 * k) f) ![vj, vb, vr]
        (loadIdx (F := F) (e := .f32) (s := Stage) (t := Lanes) (stage X (base + j)) ![cls, vb, vr] h1) (fun _ => 1#1) false h2
      = part X C base j (16 * k + 16) f := by
  have hlane (x : Lanes.Idx) : (x 0).val < 16 := (x 0).isLt
  have ej (x : Lanes.Idx) : (idxAt (s := Rows 15) ![vj, vb, vr] h2 x 0).val = j := by
    show (vj x).toNat = j
    rw [hvj, BitVec.toNat_ofNat]; exact Nat.mod_eq_of_lt (by omega)
  have eb' (x : Lanes.Idx) : (vb x).toNat = (16 * k + (x 0).val) / 100 := by
    rw [hvb, BitVec.toNat_ofNat]; exact Nat.mod_eq_of_lt (by have := hlane x; omega)
  have er' (x : Lanes.Idx) : (vr x).toNat = (16 * k + (x 0).val) % 100 := by
    rw [hvr, BitVec.toNat_ofNat]; exact Nat.mod_eq_of_lt (by omega)
  have eb (x : Lanes.Idx) : (idxAt (s := Rows 15) ![vj, vb, vr] h2 x 1).val = (16 * k + (x 0).val) / 100 := eb' x
  have er (x : Lanes.Idx) : (idxAt (s := Rows 15) ![vj, vb, vr] h2 x 2).val = (16 * k + (x 0).val) % 100 := er' x
  refine storeIdx_eq _ _ _ _ _ (fun l => ?_) fun z hz => ?_
  · generalize hx : (Shape.ofLane l : Lanes.Idx) = x
    have hxl := hlane x
    unfold part
    rw [if_pos (Or.inr ⟨ej x, by rw [eb, er]; omega⟩), ej, eb, er]
    have hp : 100 * ((16 * k + (x 0).val) / 100) + (16 * k + (x 0).val) % 100 = 16 * k + (x 0).val := by omega
    unfold pick loadIdx stage
    rw [hp, ← hcls]
    refine congrArg X ?_
    show _ = ix4 (cls x).toNat (base + j) (vb x).toNat (vr x).toNat
    rw [eb', er']
  · unfold part
    refine if_congr ?_ rfl rfl
    have z0 : (z 0).val < 15 := (z 0).isLt
    have z1 : (z 1).val < 8 := (z 1).isLt
    have z2 : (z 2).val < 100 := (z 2).isLt
    refine ⟨fun h => h.imp id fun h => ⟨h.1, by omega⟩, fun h => h.imp id fun h => ⟨h.1, ?_⟩⟩
    by_contra hlt
    have hl : 100 * (z 1).val + (z 2).val - 16 * k < 16 := by omega
    have hl' : 100 * (z 1).val + (z 2).val - 16 * k < (![16] : Fin 1 → ℕ) 0 := hl
    refine hz ⟨100 * (z 1).val + (z 2).val - 16 * k, hl'⟩ ?_
    have hx0 : ((Shape.ofLane (d := ![16]) ⟨100 * (z 1).val + (z 2).val - 16 * k, hl'⟩ : Lanes.Idx) 0).val = 100 * (z 1).val + (z 2).val - 16 * k := rfl
    funext a
    match a with
    | 0 => exact Fin.ext ((ej _).trans h.1.symm)
    | 1 => exact Fin.ext ((eb _).trans (by rw [hx0]; omega))
    | 2 => exact Fin.ext ((er _).trans (by rw [hx0]; omega))

end Block

end Cert.Proof.Vals

end
-- ==== Proof.Ideal.Setup.lean ====
/-
  The program as the launch theorem sees it: its call table, the algebra its ghost state lives in, its arrays as
  locations, and what the one call of the vector subcores carries.

  Each of the 32 tiles is handed a read share of the planes and of the list of classes, and the block of fifteen
  rows of the result that it owns; it hands the shares back, and its block at the values delivered there.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Pipeline.RegionArraysS
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Vals

@[expose] public section

noncomputable section

namespace Cert.Proof.KernIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The call table -/

abbrev ΛP [FloatOps F] : Labels := Pipeline.Sig Λ₀ (Fin 1) fun p => (pcfgs (F := F) p).Adm
abbrev K [FloatOps F] : SparseCore.Cfg τ sig (ΛP (F := F)) 1 := sc (F := F)
theorem nCore_zero [FloatOps F] : (K (F := F)).nCore 0 = 2 := rfl
theorem nSub_zero [FloatOps F] : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-! ## The algebra: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-! ## The arrays -/

/-- The planes, the list of classes, the 480 rows the vector subcores deliver, as locations of device `d`. -/
abbrev pLoc (d : Dev nD) : Loc nD τ sig := (SparseCore.T d).loc main_v1
abbrev cLoc (d : Dev nD) : Loc nD τ sig := (SparseCore.T d).loc main_v2
abbrev oLoc (d : Dev nD) : Loc nD τ sig := (SparseCore.T d).loc main_v3

abbrev pV : Memref sig .scVector .hbm S91x784x8x100 .f32 := Memref.whole main_v1_scv
abbrev lV : Memref sig .scVector .hbm S800 .i32 := Memref.whole main_v2_scv
abbrev oV : Memref sig .scVector .hbm S480x8x100 .f32 := Memref.whole main_v3_scv
/-- A tile's scratch: the classes, the stage of one position, the fifteen rows. -/
abbrev sC : Memref sig .scVector .vmem S800 .i32 := Memref.whole cc0_scratch0
abbrev sX : Memref sig .scVector .vmem S91x8x100 .f32 := Memref.whole cc0_scratch1
abbrev sO : Memref sig .scVector .vmem S15x8x100 .f32 := Memref.whole cc0_scratch2

theorem hdiv : 32 ∣ S480x8x100.size 0 := ⟨15, rfl⟩
/-- The `w`-th block of fifteen rows of the result, and its elements. -/
abbrev blk (w : Fin 32) : Rect S480x8x100 := Rect.part (s := S480x8x100) (a₀ := 0) hdiv w
abbrev blkSet (w : Fin 32) : Finset S480x8x100.Idx := (blk w).set

/-- The tile number of vector subcore `i` of SparseCore `c`. -/
def wid (c : Fin 2) (i : Fin 16) : Fin 32 := ⟨2 * i.val + c.val, by omega⟩

/-- The read share tile `w` is handed of an array. -/
abbrev share (w : Fin 32) : PosShare TreeShare := Transfers.shareTok fullShare 32 w

/-! ## What the call carries -/

/-- Tile `w`'s operands, the planes being `X`, the classes `C` and its block at the contents of `f`. -/
abbrev tileIn (d : Dev nD) (w : Fin 32) (X : Buf (Elt F) (pLoc d)) (C : Buf (Elt F) (cLoc d)) (f : Buf (Elt F) (oLoc d)) : sProp 𝕄 :=
  iprop((pLoc d ↦{share w} X) ∗ (cLoc d ↦{share w} C) ∗ (oLoc d ↦[blkSet w]{fullShare} f))

variable (X : (d : Dev nD) → Buf (Elt F) (pLoc d)) (C : (d : Dev nD) → Buf (Elt F) (cLoc d)) (f₀ : (d : Dev nD) → Buf (Elt F) (oLoc d))

/-- The 480 rows the vector subcores deliver: the positions from 304 on. -/
abbrev delivered (d : Dev nD) (X : Buf (Elt F) (pLoc d)) (C : Buf (Elt F) (cLoc d)) : Buf (Elt F) (oLoc d) := Vals.rows X C 304 480

variable [FloatOps F]

/-- The one call hands every SparseCore its tiles' operands and brings back their results. -/
def P : (K (F := F)).Pay (nD := nD) (Val := Elt F) (Name := ℕ) (U := UU) where
  st := fun q d c => match q with
    | 0 => bigSep Finset.univ fun i : Fin 16 => tileIn d (wid (Fin.cast nCore_zero c) i) (X d) (C d) (f₀ d)
  dn := fun q d c => match q with
    | 0 => bigSep Finset.univ fun i : Fin 16 => tileIn d (wid (Fin.cast nCore_zero c) i) (X d) (C d) (delivered d (X d) (C d))
  go := fun q d c i => match q with
    | 0 => tileIn d (wid (Fin.cast nCore_zero c) (Fin.cast nSub_zero i)) (X d) (C d) (f₀ d)
  td := fun q d c i => match q with
    | 0 => tileIn d (wid (Fin.cast nCore_zero c) (Fin.cast nSub_zero i)) (X d) (C d) (delivered d (X d) (C d))
  x := fun _ _ => iprop(emp)

instance P_storable : (P (F := F) X C f₀).IsStorable where
  st q d c := match q with
    | 0 => (inferInstance : BI.Storable (upEmb : UEmb _ 𝕄)
        (bigSep Finset.univ fun i : Fin 16 => tileIn d (wid (Fin.cast (nCore_zero (F := F)) c) i) (X d) (C d) (f₀ d)))
  dn q d c := match q with
    | 0 => (inferInstance : BI.Storable (upEmb : UEmb _ 𝕄)
        (bigSep Finset.univ fun i : Fin 16 => tileIn d (wid (Fin.cast (nCore_zero (F := F)) c) i) (X d) (C d) (delivered d (X d) (C d))))
  go q d c i := match q with
    | 0 => (inferInstance : BI.Storable (upEmb : UEmb _ 𝕄)
        (tileIn d (wid (Fin.cast (nCore_zero (F := F)) c) (Fin.cast (nSub_zero (F := F)) i)) (X d) (C d) (f₀ d)))
  td q d c i := match q with
    | 0 => (inferInstance : BI.Storable (upEmb : UEmb _ 𝕄)
        (tileIn d (wid (Fin.cast (nCore_zero (F := F)) c) (Fin.cast (nSub_zero (F := F)) i)) (X d) (C d) (delivered d (X d) (C d))))

/-- A SparseCore's operands are its tiles' and its results theirs. -/
theorem vecSplit : (K (F := F)).VecSplit' (P X C f₀) 0 := by
  intro d c
  rw [show (P X C f₀).st 0 d c = bigSep Finset.univ fun i : Fin ((K (F := F)).nSub 0) => (P X C f₀).go 0 d c i from rfl,
    show (P X C f₀).dn 0 d c = bigSep Finset.univ fun i : Fin ((K (F := F)).nSub 0) => (P X C f₀).td 0 d c i from rfl]
  iintro H
  imodintro
  isplitl [H]
  · iexact H
  · iintro H; iexact H

end Cert.Proof.KernIdeal
-- ==== Proof.Ideal.Operands.lean ====
/-
  The vector subcores' operands, split among the 32 tiles and joined back.

  The planes and the list of classes go out at 32 read shares, a last share staying behind; the rows of the result go
  out in 32 blocks of fifteen.
-/
module

public import proofs.«01_k».proof.Proof.Ideal.Setup

@[expose] public section

noncomputable section

namespace Cert.Proof.KernIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-- The tiles, by SparseCore and vector subcore. -/
def tiles : Fin 2 × Fin 16 ≃ Fin 32 := (Equiv.prodComm _ _).trans finProdFinEquiv

theorem tiles_apply (c : Fin 2) (i : Fin 16) : tiles (c, i) = wid c i := Fin.ext (by
  show c.val + 2 * i.val = 2 * i.val + c.val
  omega)

/-- Something per tile is something per SparseCore and vector subcore. -/
theorem bigSep_tiles (Φ : Fin 32 → sProp 𝕄) :
    bigSep Finset.univ Φ = bigSep Finset.univ fun c : Fin 2 => bigSep Finset.univ fun i : Fin 16 => Φ (wid c i) := by
  rw [bigSep_univ_equiv tiles, bigSep_univ_prod]
  simp only [tiles_apply]

/-- The rows of the result are the tiles' blocks of them. -/
theorem rows_blocks (d : Dev nD) (f : Buf (Elt F) (oLoc d)) :
    (oLoc d ↦{fullShare} f : sProp 𝕄) = bigSep Finset.univ fun w : Fin 32 => oLoc d ↦[blkSet w]{fullShare} f := by
  rw [← pointsTo_biUnion Finset.univ (ℓ := oLoc d) blkSet (fun i _ j _ h => Rect.part_disjoint hdiv h),
    show Finset.univ.biUnion blkSet = Finset.univ from Rect.biUnion_part hdiv]

/-- What stays behind of the planes and the classes. -/
abbrev kept (d : Dev nD) (X : Buf (Elt F) (pLoc d)) (C : Buf (Elt F) (cLoc d)) : sProp 𝕄 :=
  iprop((pLoc d ↦{Transfers.shareDrop fullShare 32} X) ∗ (cLoc d ↦{Transfers.shareDrop fullShare 32} C))

variable (d : Dev nD) (X : Buf (Elt F) (pLoc d)) (C : Buf (Elt F) (cLoc d)) (f : Buf (Elt F) (oLoc d))

/-- Every tile's operands. -/
abbrev allTiles : sProp 𝕄 :=
  bigSep Finset.univ fun c : Fin 2 => bigSep Finset.univ fun i : Fin 16 => tileIn d (wid c i) X C f

theorem allTiles_eq : (allTiles d X C f : sProp 𝕄)
    = iprop((bigSep Finset.univ fun w : Fin 32 => pLoc d ↦{share w} X) ∗ (bigSep Finset.univ fun w : Fin 32 => cLoc d ↦{share w} C)
        ∗ bigSep Finset.univ fun w : Fin 32 => oLoc d ↦[blkSet w]{fullShare} f) := by
  unfold allTiles
  rw [← bigSep_tiles (fun w => tileIn d w X C f), bigSep_sep', bigSep_sep']

/-- The three arrays split among the tiles. -/
theorem tiles_split : iprop((pLoc d ↦{fullShare} X) ∗ (cLoc d ↦{fullShare} C) ∗ (oLoc d ↦{fullShare} f))
    ⊢ (iprop(kept d X C ∗ allTiles d X C f) : sProp 𝕄) := by
  rw [allTiles_eq, rows_blocks]
  iintro ⟨Hp, Hc, Ho⟩
  ihave Hp := (Transfers.pointsTo_toks_split fullShare 32) $$ Hp
  ihave Hc := (Transfers.pointsTo_toks_split fullShare 32) $$ Hc
  icases Hp with ⟨Hpk, Hp⟩
  icases Hc with ⟨Hck, Hc⟩
  isplitl [Hpk Hck]; · isplitl [Hpk] <;> iassumption
  isplitl [Hp]; · iexact Hp
  isplitl [Hc]; · iexact Hc
  iexact Ho

/-- They join back. -/
theorem tiles_join : iprop(kept d X C ∗ allTiles d X C f)
    ⊢ (iprop((pLoc d ↦{fullShare} X) ∗ (cLoc d ↦{fullShare} C) ∗ (oLoc d ↦{fullShare} f)) : sProp 𝕄) := by
  rw [allTiles_eq, rows_blocks]
  iintro ⟨⟨Hpk, Hck⟩, Hp, Hc, Ho⟩
  isplitl [Hpk Hp]
  · iapply (Transfers.pointsTo_toks_join fullShare 32); isplitl [Hpk]; · iexact Hpk
    iexact Hp
  isplitl [Hck Hc]
  · iapply (Transfers.pointsTo_toks_join fullShare 32); isplitl [Hck]; · iexact Hck
    iexact Hc
  iexact Ho

end Cert.Proof.KernIdeal
-- ==== Proof.Ideal.Block.lean ====
/-
  One block of sixteen boxes, run: the two checks pass, the classes of the block are read, the values of those
  classes are gathered from the stage and stored into the current row.
-/
module

public import proofs.«01_k».proof.Proof.Ideal.Setup

@[expose] public section

noncomputable section

namespace Cert.Proof.KernIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (L : grid0.Coords)

/-- The SparseCore and the vector subcore a task of the grid runs on. -/
abbrev cV (L : grid0.Coords) : Fin τ.nSC := (L 0).castLE hcore0
abbrev jV (L : grid0.Coords) : Fin τ.nSub := (L 1).castLE hsub0
abbrev thr : Thread nD τ := V d (cV L) (jV L)

/-- A tile's scratch, each buffer at given contents. -/
abbrev ptsC (C : Vals.Flat.Idx → BitVec 32) : sProp 𝕄 :=
  (sC : Memref sig .scVector .vmem S800 .i32).view.loc (thr d L) ↦{fullShare} (C : Buf (Elt F) ((thr d L).loc cc0_scratch0))
abbrev ptsX (g : Vals.Stage.Idx → Elt F .f32) : sProp 𝕄 :=
  (sX : Memref sig .scVector .vmem S91x8x100 .f32).view.loc (thr d L) ↦{fullShare} (g : Buf (Elt F) ((thr d L).loc cc0_scratch1))
abbrev ptsO (g : (Vals.Rows 15).Idx → Elt F .f32) : sProp 𝕄 :=
  (sO : Memref sig .scVector .vmem S15x8x100 .f32).view.loc (thr d L) ↦{fullShare} (g : Buf (Elt F) ((thr d L).loc cc0_scratch2))

/-- The loads of a block: lanes `o …` of the classes. -/
theorem lanes_read (C : Vals.Flat.Idx → BitVec 32) (o : ℕ) (hin : ∀ a, (![o] : Fin 1 → ℕ) a + S16.size a ≤ S800.size a) (x : S16.Idx) :
    (sC : Memref sig .scVector .vmem S800 .i32).view.readAt (Elt F) (Rect.unit (s := S800) ![o] S16.size hin).toLoadRect C x = C (Vals.ix1 (o + (x 0).val)) := by
  simp only [View.readAt_apply, Memref.view_whole, View.read_whole]
  refine congrArg C (Vals.eq_ix1 _ _ ?_)
  rw [LoadRect.idx_apply]
  show o + 1 * (x 0).val = _
  omega

/-- A block at the head of the program: boxes `16·k …` of row `j`. The checks hold (`hP1`, `hP2` restate them); the
    index vectors are the boxes' images and numbers (`hvb`, `hvr`) and the row `j` (`hvj`). -/
theorem wp_block {bd : Option 𝒱₀.V} {β : Type} {Q : β → sProp 𝕄} {X : Vals.Planes.Idx → Elt F .f32} {C : Vals.Flat.Idx → BitVec 32} {base j o : ℕ} {f : (Vals.Rows 15).Idx → Elt F .f32}
    (hC : ∀ p, (C p).toNat < 91) (hj : j < 15)
    {vj vb vr : IVec S16 32} {P2 : Prop} {d2 : Decidable P2} {P1 : IVec S16 32 → Prop} {d1 : ∀ cls, Decidable (P1 cls)}
    {hin : ∀ a, (![o] : Fin 1 → ℕ) a + S16.size a ≤ S800.size a} {hl : (sC : Memref sig .scVector .vmem S800 .i32).view.LoadsAt (Rect.unit (s := S800) ![o] S16.size hin).toLoadRect}
    {hi1 : PLift P2 → ∀ cls, PLift (P1 cls) → ∀ a x, ((![cls, vb, vr] : Fin 3 → IVec S16 32) a x).toNat < S91x8x100.size a}
    {hi2 : PLift P2 → ∀ cls, PLift (P1 cls) → Vec F S16 .f32 → ∀ a x, ((![vj, vb, vr] : Fin 3 → IVec S16 32) a x).toNat < S15x8x100.size a}
    {hl6 : (sX : Memref sig .scVector .vmem S91x8x100 .f32).view.Loads}
    {hs7 : ((sO : Memref sig .scVector .vmem S15x8x100 .f32).access (.whole S15x8x100)).Stores Finset.univ}
    {k : PUnit → Prog (TpuEff nD τ sig (Elt F) Λ₀ (thr d L).2) β}
    (ho : o % 16 = 0) (ho' : o < 800)
    (hvj : ∀ x, vj x = BitVec.ofNat 32 j) (hvb : ∀ x : S16.Idx, vb x = BitVec.ofNat 32 ((o + (x 0).val) / 100))
    (hvr : ∀ x : S16.Idx, vr x = BitVec.ofNat 32 ((o + (x 0).val) % 100))
    (hP1 : ∀ cls, (∀ a x, ((![cls, vb, vr] : Fin 3 → IVec S16 32) a x).toNat < S91x8x100.size a) → P1 cls)
    (hP2 : (∀ a x, ((![vj, vb, vr] : Fin 3 → IVec S16 32) a x).toNat < S15x8x100.size a) → P2) :
    iprop(ptsC (F := F) d L C ∗ ptsX d L (Vals.stage X (base + j)) ∗ ptsO d L (Vals.part X C base j o f))
      ⊢ iprop((iprop(ptsC (F := F) d L C ∗ ptsX d L (Vals.stage X (base + j)) ∗ ptsO d L (Vals.part X C base j (o + 16) f))
          -∗ wp frame (wpE (defs₀ (F := F)) 𝒱₀ (thr d L) bd) Set.univ (k ⟨⟩) Q)
        -∗ wp frame (wpE (defs₀ (F := F)) 𝒱₀ (thr d L) bd) Set.univ
          (.op (.assume P2 d2) fun h2 => .op (.load sC (Rect.unit (s := S800) ![o] S16.size hin).toLoadRect hl) fun (cls : Vec F S16 .i32) =>
            .op (.assume (P1 cls) (d1 cls)) fun h1 =>
              SparseCore.vectorLoadIdx sX ![cls, vb, vr] (hi1 h2 cls h1) hl6 >>= fun v =>
                SparseCore.vectorStoreIdx sO ![vj, vb, vr] v (fun _ => 1#1) false (hi2 h2 cls h1 v) hs7 >>= k) Q) := by
  have hlane (x : S16.Idx) : (x 0).val < 16 := (x 0).isLt
  have bj : ∀ x, (vj x).toNat < 15 := fun x => by rw [hvj, BitVec.toNat_ofNat]; exact lt_of_le_of_lt (Nat.mod_le _ _) hj
  have bb : ∀ x, (vb x).toNat < 8 := fun x => by
    rw [hvb, BitVec.toNat_ofNat]; exact lt_of_le_of_lt (Nat.mod_le _ _) (by have := hlane x; omega)
  have br : ∀ x, (vr x).toNat < 100 := fun x => by
    rw [hvr, BitVec.toNat_ofNat]; exact lt_of_le_of_lt (Nat.mod_le _ _) (by omega)
  have h2 : P2 := hP2 fun a x => by
    match a with
    | 0 => exact bj x
    | 1 => exact bb x
    | 2 => exact br x
  have h1 : P1 ((sC : Memref sig .scVector .vmem S800 .i32).view.readAt (Elt F) (Rect.unit (s := S800) ![o] S16.size hin).toLoadRect C) := hP1 _ fun a x => by
    match a with
    | 0 => exact lt_of_eq_of_lt (congrArg BitVec.toNat (lanes_read (F := F) C o hin x)) (hC _)
    | 1 => exact bb x
    | 2 => exact br x
  iintro ⟨HC, HX, HO⟩ Hk
  iapply (wp_assume 𝒱₀ (thr d L) bd Set.univ h2)
  iapply (wp_load 𝒱₀ (thr d L) bd Set.univ (m := sC) (Finset.subset_univ _)) $$ HC
  iintro HC
  iapply (wp_assume 𝒱₀ (thr d L) bd Set.univ h1)
  iapply (SparseCore.wp_vectorLoadIdx 𝒱₀ (thr d L) bd Set.univ (base := sX) (Finset.subset_univ _)) $$ HX
  iintro HX
  ihave HO' := (Entails.of_eq (show (ptsO d L (Vals.part X C base j o f) : sProp 𝕄)
    = (((sO : Memref sig .scVector .vmem S15x8x100 .f32).access (.whole S15x8x100)).loc (thr d L)
        ↦[((sO : Memref sig .scVector .vmem S15x8x100 .f32).access (.whole S15x8x100)).set]{fullShare} Vals.part X C base j o f) by
      rw [show ((sO : Memref sig .scVector .vmem S15x8x100 .f32).access (.whole S15x8x100)).set = Finset.univ from Memref.set_access_whole _])) $$ HO
  iapply (SparseCore.wp_vectorStoreIdx 𝒱₀ (thr d L) bd Set.univ (base := sO)) $$ HO'
  iintro HO'
  iapply Hk
  isplitl [HC]; · iexact HC
  isplitl [HX]; · iexact HX
  obtain ⟨n, rfl⟩ : ∃ n, o = 16 * n := ⟨o / 16, by omega⟩
  have key := Vals.block_step (F := F) X C base j n (by omega) hj f vj vb vr _ hvj hvb hvr (lanes_read (F := F) C (16 * n) hin)
    (hi1 ⟨h2⟩ _ ⟨h1⟩) (hi2 ⟨h2⟩ _ ⟨h1⟩ (fun _ => X (Vals.ix4 0 0 0 0)))
  rw [← key]
  iapply (Entails.of_eq ?_) $$ HO'
  rw [show ((sO : Memref sig .scVector .vmem S15x8x100 .f32).access (.whole S15x8x100)).set = Finset.univ from Memref.set_access_whole _]
  erw [Memref.write_access_whole_univ, Memref.read_access_whole, Memref.read_access_whole]

end Cert.Proof.KernIdeal
-- ==== Proof.Ideal.Fetch.lean ====
/-
  One trip's fetch: the planes of all classes at one position are copied into the stage.
-/
module

public import proofs.«01_k».proof.Proof.Ideal.Block

@[expose] public section

noncomputable section

namespace Cert.Proof.KernIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (L : grid0.Coords)

/-- The first position tile `L` delivers. -/
abbrev base (L : grid0.Coords) : ℕ := 304 + (30 * (L 1).val + 15 * (L 0).val)

abbrev slab (L : grid0.Coords) (t : Fin k0_t1_loop.trips) : Memref sig .scVector .hbm S91x8x100 .f32 :=
  ((pV : Memref sig .scVector .hbm S91x784x8x100 .f32).slice (Rect.unit (s := S91x784x8x100) (k0_off1 L t) S91x1x8x100.size (k0_off1_inb L t)) (fun _ => rfl)).squeeze
    S91x8x100 squeezes_S91x1x8x100_S91x8x100

/-- The slab of position `base + t` holds the planes of all classes there. -/
theorem slab_read (t : Fin k0_t1_loop.trips) (X : Vals.Planes.Idx → Elt F .f32) :
    (slab L t).view.read (Elt F) X = Vals.stage X (base L + t.val) := by
  funext z
  have hz : ∃ y : S91x1x8x100.Idx, (y 0).val = (z 0).val ∧ (y 1).val = 0 ∧ (y 2).val = (z 1).val ∧ (y 3).val = (z 2).val :=
    ⟨(fun | 0 => z 0 | 1 => (0 : Fin 1) | 2 => z 1 | 3 => z 2), rfl, rfl, rfl, rfl⟩
  obtain ⟨y, h0, h1, h2, h3⟩ := hz
  have hr : Shape.reshapeEquiv squeezes_S91x1x8x100_S91x8x100.numel_eq z = y :=
    Shape.reshapeEquiv_eq_of_rowMajor _ (by
      rw [Shape.rowMajor_val_four, Shape.rowMajor_val_three, h0, h1, h2, h3]
      show (((z 0).val * 1 + 0) * 8 + (z 1).val) * 100 + (z 2).val = ((z 0).val * 8 + (z 1).val) * 100 + (z 2).val
      omega)
  rw [View.read_apply]
  refine (cast_eq _ _).trans (congrArg X ?_)
  show (Rect.unit (s := S91x784x8x100) (k0_off1 L t) S91x1x8x100.size (k0_off1_inb L t)).emb
    (Shape.reshapeEquiv squeezes_S91x1x8x100_S91x8x100.numel_eq z) = _
  rw [hr]
  refine Vals.eq_ix4 _ _ _ _ _ ?_ ?_ ?_ ?_ <;> rw [Rect.emb_apply]
  · show k0_off1 L t 0 + 1 * (y 0).val = _
    rw [k0_off1_eq, h0]; show 0 + 1 * _ = _; omega
  · show k0_off1 L t 1 + 1 * (y 1).val = _
    rw [k0_off1_eq, h1]; show (30 * (L 1).val + 15 * (L 0).val + t.val + 304) + 1 * 0 = _; unfold base; omega
  · show k0_off1 L t 2 + 1 * (y 2).val = _
    rw [k0_off1_eq, h2]; show 0 + 1 * _ = _; omega
  · show k0_off1 L t 3 + 1 * (y 3).val = _
    rw [k0_off1_eq, h3]; show 0 + 1 * _ = _; omega

/-- The planes as a tile addresses them, at share `q`. -/
abbrev ptsP (q : PosShare TreeShare) (X : Vals.Planes.Idx → Elt F .f32) : sProp 𝕄 :=
  (pV : Memref sig .scVector .hbm S91x784x8x100 .f32).view.loc (thr d L) ↦{q} (X : Buf (Elt F) ((thr d L).loc main_v1_scv))

/-- What is owed after some waits, all recorded at index `none`. -/
abbrev owesN (O : CellTallies nD τ sig (HIx 1)) (W : Waits sig (HIx 1)) : sProp 𝕄 :=
  iprop(∃ W', ⌜∀ p ∈ W', p ∈ W ∨ p.2 = none⌝ ∗ owes (thr d L) O W')

theorem wp_fetch {bd : Option 𝒱₀.V} {β : Type} {Q : β → sProp 𝕄} {X : Vals.Planes.Idx → Elt F .f32} {q : PosShare TreeShare} {O : CellTallies nD τ sig (HIx 1)}
    {W : Waits sig (HIx 1)} {t : Fin k0_t1_loop.trips} {hs : (slab L t).view.WordExact} {hd : (sX : Memref sig .scVector .vmem S91x8x100 .f32).view.WordExact} {he}
    {k : PUnit → Prog (TpuEff nD τ sig (Elt F) Λ₀ (thr d L).2) β} :
    iprop(Transfers.MayWaits (thr d L) (none : HIx 1) O ∗ ptsP d L q X ∗ (∃ g, ptsX (F := F) d L g) ∗ semVal (thr d L, SemLoc.dma cc0_scratch3.sem) 0 ∗ owesN (F := F) d L O W)
      ⊢ iprop((iprop(Transfers.MayWaits (thr d L) (none : HIx 1) O ∗ ptsP d L q X ∗ ptsX (F := F) d L (Vals.stage X (base L + t.val)) ∗ semVal (thr d L, SemLoc.dma cc0_scratch3.sem) 0 ∗ owesN (F := F) d L O W)
          -∗ wp frame (wpE (defs₀ (F := F)) 𝒱₀ (thr d L) bd) Set.univ (k ⟨⟩) Q)
        -∗ wp frame (wpE (defs₀ (F := F)) 𝒱₀ (thr d L) bd) Set.univ
          (.op (.enqueueDma (slab L t) (.here sX) (.dma cc0_scratch3.sem) hs hd he) fun _ => .op (.waitDma2 cc0_scratch3.sem (slab L t) sX hs hd) k) Q) := by
  iintro ⟨Hmw, HP, ⟨%g, HX⟩, Hsem, %W', %hW', HO⟩ Hk
  sl_exec (disch := exact View.amount_pos _ _ (show 0 < S91x8x100.numel by decide))
  delta wp_fetch.sl.dma0
  have e : (sX : Memref sig .scVector .vmem S91x8x100 .f32).view.write (Elt F) g ((slab L t).view.read (Elt F) X) Finset.univ = Vals.stage X (base L + t.val) :=
    (View.write_whole_univ _ _ _).trans (slab_read L t X)
  ihave HX' := (Entails.of_eq (congrArg (fun g => (ptsX d L g : sProp 𝕄)) e)) $$ HX
  iapply Hk
  isplitl [Hmw]; · iexact Hmw
  isplitl [HP]; · iexact HP
  isplitl [HX']; · iexact HX'
  isplitl [Hsem]; · iexact Hsem
  iexists _; isplitr
  swap; · iexact HO
  ipureintro; intro p hp
  rcases Finset.mem_insert.mp hp with hp | hp
  · exact .inr (hp ▸ rfl)
  · exact hW' p hp

end Cert.Proof.KernIdeal
-- ==== Proof.Ideal.Trip.lean ====
/-
  One trip of a tile's loop: the fetch and the fifty blocks, after which one more row is complete.
-/
module

public import proofs.«01_k».proof.Proof.Ideal.Fetch

@[expose] public section

noncomputable section

namespace Cert.Proof.KernIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (L : grid0.Coords)

/-- The lanes' numbers, and the tile's row offset as the program computes them. -/
abbrev lanes : IVec S16 32 := iota .scVector S16 32 [0] iota_S16_d0_w32_scVector

theorem row_vec (t : Fin k0_t1_loop.trips) (x : S16.Idx) : k0_pay1 lanes 0#32 1#32 t x = BitVec.ofNat 32 t.val := by
  revert t x; decide +kernel

set_option maxHeartbeats 2000000 in
/-- One trip: the stage is refilled, and row `t` of the tile's rows is delivered. -/
theorem wp_trip {bd : Option 𝒱₀.V} {X : Vals.Planes.Idx → Elt F .f32} {C : Vals.Flat.Idx → BitVec 32} (hC : ∀ p, (C p).toNat < 91) {q : PosShare TreeShare}
    {O : CellTallies nD τ sig (HIx 1)} {W : Waits sig (HIx 1)} {f : (Vals.Rows 15).Idx → Elt F .f32} (v2 : BitVec 32) (t : Fin k0_t1_loop.trips) (a : BitVec 32) :
    iprop(Transfers.MayWaits (thr d L) (none : HIx 1) O ∗ ptsP d L q X ∗ (∃ g, ptsX (F := F) d L g) ∗ semVal (thr d L, SemLoc.dma cc0_scratch3.sem) 0 ∗ owesN (F := F) d L O W
        ∗ ptsC (F := F) d L C ∗ ptsO d L (Vals.part X C (base L) t.val 0 f))
      ⊢ wp frame (wpE (defs₀ (F := F)) 𝒱₀ (thr d L) bd) Set.univ
          (k0_t1_body (F := F) L pV (Memref.isWhole_whole _) lV (Memref.isWhole_whole _) oV (Memref.isWhole_whole _) sC (Memref.isWhole_whole _) sX (Memref.isWhole_whole _)
            sO (Memref.isWhole_whole _) cc0_scratch3 cc0_scoped0 cc0_scoped1 v2 lanes t a) fun _ =>
        iprop(Transfers.MayWaits (thr d L) (none : HIx 1) O ∗ ptsP d L q X ∗ (∃ g, ptsX (F := F) d L g) ∗ semVal (thr d L, SemLoc.dma cc0_scratch3.sem) 0 ∗ owesN (F := F) d L O W
          ∗ ptsC (F := F) d L C ∗ ptsO d L (Vals.part X C (base L) (t.val + 1) 0 f)) := by
  have ht : t.val < 15 := t.isLt
  unfold k0_t1_body
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  simp only [k0_part1_skel, k0_part2_skel, k0_part3_skel, k0_part4_skel, k0_part5_skel, k0_part6_skel, k0_part7_skel, k0_part8_skel, k0_part9_skel, k0_part10_skel, k0_part11_skel, k0_part12_skel, k0_part13_skel, k0_part14_skel, k0_part15_skel, k0_part16_skel, k0_part17_skel, k0_part18_skel,
    Prog.lift, Prog.bind_op, Prog.bind_ret, Prog.pure_eq_ret, Prog.bind_assoc]
  iintro ⟨Hmw, HP, HX, Hsem, HO, HC, Ho⟩
  iapply (wp_fetch d L (X := X) (q := q) (O := O) (W := W)) $$ [Hmw HP HX Hsem HO]
  · isplitl [Hmw]; · iexact Hmw
    isplitl [HP]; · iexact HP
    isplitl [HX]; · iexact HX
    isplitl [Hsem] <;> iassumption
  iintro ⟨Hmw, HP, HX, Hsem, HO⟩
  iterate 50
    iapply (wp_block d L (X := X) (C := C) (base := base L) (j := t.val) (f := f) hC ht (by decide) (by decide) (row_vec t) (by decide +kernel) (by decide +kernel)
      ?chk1 ?chk2) $$ [HC HX Ho]
    case chk1 => exact fun _ h => h
    case chk2 => exact fun h => h
    · isplitl [HC]; · iexact HC
      isplitl [HX] <;> iassumption
    iintro ⟨HC, HX, Ho⟩
  ihave Ho' := (Entails.of_eq (congrArg (fun g => (ptsO d L g : sProp 𝕄)) (Vals.part_next X C (base L) t.val f))) $$ Ho
  sl_step
  isplitl [Hmw]; · iexact Hmw
  isplitl [HP]; · iexact HP
  isplitl [HX]; · iexists _; iexact HX
  isplitl [Hsem]; · iexact Hsem
  isplitl [HO]; · iexact HO
  isplitl [HC]; · iexact HC
  iexact Ho'

end Cert.Proof.KernIdeal
-- ==== Proof.Ideal.Tile.lean ====
/-
  A tile's whole task: the classes fetched, fifteen trips, the fifteen rows written out; and the same as the launch
  theorem asks for it.
-/
module

public import proofs.«01_k».proof.Proof.Ideal.Trip

@[expose] public section

noncomputable section

namespace Cert.Proof.KernIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (L : grid0.Coords)

/-! ## The rows of the result a tile owns -/

/-- The number of the tile at grid position `L`. -/
abbrev wL : Fin 32 := wid (L 0) (L 1)

abbrev oRow : Memref sig .scVector .hbm S15x8x100 .f32 :=
  (oV : Memref sig .scVector .hbm S480x8x100 .f32).slice (Rect.unit (s := S480x8x100) (k0_off2 L) S15x8x100.size (k0_off2_inb L)) (fun _ => rfl)

omit [FloatOps F] in
theorem oRect_eq : Rect.unit (s := S480x8x100) (k0_off2 L) S15x8x100.size (k0_off2_inb L) = blk (wL L) := by
  unfold blk Rect.part Rect.block
  congr 1 <;> funext a
  · rw [k0_off2_eq]
    match a with
    | 0 =>
      simp only [Shape.partIx, Shape.partSize, wL, wid]
      show 30 * (L 1).val + 15 * (L 0).val = (2 * (L 1).val + (L 0).val) * (480 / 32)
      omega
    | 1 => simp [Shape.partIx, Shape.partSize]
    | 2 => simp [Shape.partIx, Shape.partSize]
  · match a with
    | 0 => simp [Shape.partSize]
    | 1 => simp [Shape.partSize]
    | 2 => simp [Shape.partSize]

omit [FloatOps F] in
theorem set_oRow : (oRow L).view.set = blkSet (wL L) := by
  show ((View.whole (main_v3_scv : Ref sig .scVector)).slice (Rect.unit (s := S480x8x100) (k0_off2 L) S15x8x100.size (k0_off2_inb L))).set = _
  rw [View.set_slice_whole]
  exact oRect_eq L ▸ rfl

omit [FloatOps F] in
theorem pts_oRow (f : Buf (Elt F) (oLoc d)) :
    ((oRow L).view.loc (thr d L) ↦[(oRow L).view.set]{fullShare} f : sProp 𝕄) = oLoc d ↦[blkSet (wL L)]{fullShare} f := by
  rw [set_oRow]

/-- Contents that read as the fifteen rows through the tile's block are the delivered rows there. -/
theorem out_lands (X : Vals.Planes.Idx → Elt F .f32) (C : Vals.Flat.Idx → BitVec 32) (g : Buf (Elt F) (oLoc d))
    (hg : (oRow L).view.read (Elt F) g = Vals.rows X C (base L) 15) :
    (oLoc d ↦[blkSet (wL L)]{fullShare} g : sProp 𝕄) = oLoc d ↦[blkSet (wL L)]{fullShare} delivered d X C := by
  refine pointsTo_congr fun i hi => ?_
  rw [← set_oRow] at hi
  obtain ⟨y, -, rfl⟩ := Finset.mem_map.mp hi
  have h := congrFun hg y
  rw [View.read_apply] at h
  refine ((cast_eq _ _).symm.trans h).trans ?_
  have e (a : Fin 3) : ((oRow L).view.emb y a).val = k0_off2 L a + 1 * (y a).val := rfl
  unfold delivered Vals.rows
  show _ = Vals.pick X C (304 + ((oRow L).view.emb y 0).val) ((oRow L).view.emb y 1).val ((oRow L).view.emb y 2).val
  rw [e, e, e, k0_off2_eq]
  show Vals.pick X C (304 + (30 * (L 1).val + 15 * (L 0).val) + (y 0).val) (y 1).val (y 2).val
    = Vals.pick X C (304 + ((30 * (L 1).val + 15 * (L 0).val) + 1 * (y 0).val)) (0 + 1 * (y 1).val) (0 + 1 * (y 2).val)
  congr 1 <;> omega

/-! ## A tile's own counters and scratch -/

abbrev cellF (c : Fin τ.nSC) (i : Fin τ.nSub) : GSem nD τ sig := (V d c i, .dma cc0_scratch3.sem)
abbrev cellA (c : Fin τ.nSC) (i : Fin τ.nSub) : GSem nD τ sig := (V d c i, .dma cc0_scoped0.sem)
abbrev cellB (c : Fin τ.nSC) (i : Fin τ.nSub) : GSem nD τ sig := (V d c i, .dma cc0_scoped1.sem)

omit [FloatOps F] in
/-- The three counters the task names are among the tile's own. -/
theorem ownSems0_V :
    (ownSems0 (thr d L) : sProp 𝕄)
      = iprop(semVal (cellF d (cV L) (jV L)) 0 ∗ semVal (cellA d (cV L) (jV L)) 0 ∗ semVal (cellB d (cV L) (jV L)) 0
          ∗ bigSep ((((ownCells (thr d L)).erase (cellF d (cV L) (jV L))).erase (cellA d (cV L) (jV L))).erase (cellB d (cV L) (jV L))) fun g => semVal g 0) := by
  have mF : cellF d (cV L) (jV L) ∈ ownCells (thr d L) := mem_ownCells.mpr ⟨rfl, by show (SemLoc.dma cc0_scratch3.sem : SemLoc sig).isScoped .scVector = true; decide⟩
  have mA : cellA d (cV L) (jV L) ∈ ownCells (thr d L) := mem_ownCells.mpr ⟨rfl, by show (SemLoc.dma cc0_scoped0.sem : SemLoc sig).isScoped .scVector = true; decide⟩
  have mB : cellB d (cV L) (jV L) ∈ ownCells (thr d L) := mem_ownCells.mpr ⟨rfl, by show (SemLoc.dma cc0_scoped1.sem : SemLoc sig).isScoped .scVector = true; decide⟩
  have nAF : cellA d (cV L) (jV L) ≠ cellF d (cV L) (jV L) := by simp [cellA, cellF]; decide
  have nBF : cellB d (cV L) (jV L) ≠ cellF d (cV L) (jV L) := by simp [cellB, cellF]; decide
  have nBA : cellB d (cV L) (jV L) ≠ cellA d (cV L) (jV L) := by simp [cellB, cellA]; decide
  unfold SparseCore.Cfg.ownSems0
  rw [SparseCore.bigSep_erase' mF, SparseCore.bigSep_erase' (Finset.mem_erase.mpr ⟨nAF, mA⟩),
    SparseCore.bigSep_erase' (Finset.mem_erase.mpr ⟨nBA, Finset.mem_erase.mpr ⟨nBF, mB⟩⟩)]

/-- The three scratch buffers as references of the device. -/
abbrev bufC : DevRef τ sig := (Proc.scVector (cV L) (jV L)).devRef cc0_scratch0
abbrev bufX : DevRef τ sig := (Proc.scVector (cV L) (jV L)).devRef cc0_scratch1
abbrev bufO : DevRef τ sig := (Proc.scVector (cV L) (jV L)).devRef cc0_scratch2

omit [FloatOps F] in
/-- The three scratch buffers are among the tile's own. -/
theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f)
          ∗ bigSep ((((ownRefs (τ := τ) (sig := sig) (.scVector (cV L) (jV L))).erase (bufC L)).erase (bufX L)).erase (bufO L))
              fun b => iprop(∃ f, ((d, b) : Loc nD τ sig) ↦{fullShare} f)) := by
  have nXC : bufX L ≠ bufC L := fun e => absurd (Proc.devRef_injective _ e) (show (cc0_scratch1 : Ref sig .scVector) ≠ cc0_scratch0 by decide)
  have nOC : bufO L ≠ bufC L := fun e => absurd (Proc.devRef_injective _ e) (show (cc0_scratch2 : Ref sig .scVector) ≠ cc0_scratch0 by decide)
  have nOX : bufO L ≠ bufX L := fun e => absurd (Proc.devRef_injective _ e) (show (cc0_scratch2 : Ref sig .scVector) ≠ cc0_scratch1 by decide)
  have mC := SparseCore.Cfg.mem_ownRefs_of_owner (p := Proc.scVector (cV L) (jV L)) (b := bufC L) rfl
  have mX := SparseCore.Cfg.mem_ownRefs_of_owner (p := Proc.scVector (cV L) (jV L)) (b := bufX L) rfl
  have mO := SparseCore.Cfg.mem_ownRefs_of_owner (p := Proc.scVector (cV L) (jV L)) (b := bufO L) rfl
  unfold SparseCore.Cfg.ownBufs
  refine (SparseCore.bigSep_erase' mC).trans ?_
  rw [SparseCore.bigSep_erase' (Finset.mem_erase.mpr ⟨nXC, mX⟩), SparseCore.bigSep_erase' (Finset.mem_erase.mpr ⟨nOX, Finset.mem_erase.mpr ⟨nOC, mO⟩⟩)]

/-! ## The task -/

/-- Before trip `n`: the rows before the `n`-th are delivered, the rest of the state is as at the start. -/
def inv (X : Vals.Planes.Idx → Elt F .f32) (C : Vals.Flat.Idx → BitVec 32) (f : (Vals.Rows 15).Idx → Elt F .f32) (O : CellTallies nD τ sig (HIx 1)) (W : Waits sig (HIx 1))
    (n : ℕ) (_ : BitVec 32) : sProp 𝕄 :=
  iprop(Transfers.MayWaits (thr d L) (none : HIx 1) O ∗ ptsP d L (share (wL L)) X ∗ (∃ g, ptsX (F := F) d L g) ∗ semVal (thr d L, SemLoc.dma cc0_scratch3.sem) 0
    ∗ owesN (F := F) d L O W ∗ ptsC (F := F) d L C ∗ ptsO d L (Vals.part X C (base L) n 0 f))

set_option maxRecDepth 16384 in
/-- The task of the tile at `L`, the classes being below 91: its block ends at the delivered rows. -/
theorem tile_body (X : Vals.Planes.Idx → Elt F .f32) (C : Vals.Flat.Idx → BitVec 32) (f : Buf (Elt F) (oLoc d)) (hC : ∀ p, (C p).toNat < 91)
    (O : CellTallies nD τ sig (HIx 1)) (W : Waits sig (HIx 1)) (hO : ∀ g, O g none = 0) :
    iprop(levAts (K (F := F)).L (K (F := F)).lev ∗ emp ∗ tileIn d (wL L) X C f ∗ scopedBufs (thr d L) ∗ scopedSems0 (thr d L) ∗ owes (thr d L) O W)
      ⊢ wp frame (wpE (defs₀ (F := F)) 𝒱₀ (thr d L) none) Set.univ
          (cc0__sc_gather L pV (Memref.isWhole_whole _) lV (Memref.isWhole_whole _) oV (Memref.isWhole_whole _) sC (Memref.isWhole_whole _) sX (Memref.isWhole_whole _)
            sO (Memref.isWhole_whole _) cc0_scratch3 cc0_scoped0 cc0_scoped1)
          fun _ => iprop(tileIn d (wL L) X C (delivered d X C) ∗ scopedBufs (thr d L) ∗ scopedSems0 (thr d L)
            ∗ ∃ W', ⌜∀ p ∈ W', p ∈ W ∨ p.2 = none⌝ ∗ owes (thr d L) O W') := by
  simp only [cc0__sc_gather_eq_skeleton]; unfold cc0__sc_gather_skel
  rw [(K (F := F)).scopedBufs_V facts d (cV L) (jV L), SparseCore.Cfg.scopedSems0_V (Val := Elt F) d (cV L) (jV L), ownSems0_V, ownBufs_V]
  iintro ⟨#Hlv, -, ⟨HP, Hc, Ho⟩, ⟨⟨%fc, HC⟩, ⟨%fx, HX⟩, ⟨%fo, HO⟩, Hbufs⟩, ⟨HF, HA, HB, Hsems⟩, Hw⟩
  ihave Hmw := (show levAts (K (F := F)).L (K (F := F)).lev ⊢ Transfers.MayWaits (thr d L) (default : HIx 1) O from (K (F := F)).mayWaits_none (thr := thr d L) hO) $$ Hlv
  ihave Hc' := (Entails.of_eq (show (cLoc d ↦{share (wL L)} C : sProp 𝕄)
    = (lV : Memref sig .scVector .hbm S800 .i32).view.loc (thr d L) ↦{share (wL L)} (C : Buf (Elt F) ((thr d L).loc main_v2_scv)) from rfl)) $$ Hc
  ihave HC' := (Entails.of_eq (show ((thr d L).loc cc0_scratch0 ↦{fullShare} fc : sProp 𝕄) = (sC : Memref sig .scVector .vmem S800 .i32).view.loc (thr d L) ↦{fullShare} fc from rfl)) $$ HC
  sl_exec
  delta tile_body.sl.dma0
  have eC : (sC : Memref sig .scVector .vmem S800 .i32).view.write (Elt F) fc ((lV : Memref sig .scVector .hbm S800 .i32).view.read (Elt F) C) Finset.univ = C :=
    (View.write_whole_univ _ _ _).trans (by simp only [Memref.view_whole, View.read_whole])
  ihave HC := (Entails.of_eq (congrArg (fun g => (ptsC (F := F) d L g : sProp 𝕄)) eC)) $$ HC'
  sl_for (inv d L X C fo O W) $$ [Hmw HP HC HX HO HF Hw]
  case region =>
    intro k a
    unfold inv
    delta tile_body.sl.prog.body_1
    rw [show tile_body.sl.v3 = lanes from rfl]
    generalize tile_body.sl.v2 L = v2
    exact wp_trip d L hC v2 k a
  · unfold inv
    isplitl [Hmw]; · iexact Hmw
    isplitl [HP]; · iexact HP
    isplitl [HX]; · iexists _; iexact HX
    isplitl [HF]; · iexact HF
    isplitl [Hw]
    · iexists _; isplitr; swap; (· iexact Hw)
      ipureintro; intro p hp
      rcases Finset.mem_insert.mp hp with hp | hp
      · exact .inr (hp ▸ rfl)
      · exact .inl hp
    isplitl [HC]; · iexact HC
    rw [Vals.part_zero]; iexact HO
  iintro %_ HI
  unfold inv
  icases HI with ⟨Hmw, HP, ⟨%gx, HX⟩, HF, ⟨%W', %hW', Hw⟩, HC, HO⟩
  ihave HO' := (Entails.of_eq (congrArg (fun g => (ptsO (F := F) d L g : sProp 𝕄)) (show Vals.part X C (base L) k0_t1_loop.trips 0 fo = Vals.rows X C (base L) 15
    from Vals.part_all X C (base L) fo))) $$ HO
  ihave Ho' := (Entails.of_eq (pts_oRow (F := F) d L f).symm) $$ Ho
  sl_exec (disch := exact View.amount_pos _ _ (show 0 < S15x8x100.numel by decide))
  sl_step
  delta tile_body.sl.dma0_1
  have eo : (oRow L).view.read (Elt F) ((oRow L).view.writes (Elt F) f [⟨Rect.whole S15x8x100, (sO : Memref sig .scVector .vmem S15x8x100 .f32).view.read (Elt F) (Vals.rows X C (base L) 15)⟩])
      = Vals.rows X C (base L) 15 := by
    rw [View.read_writes_whole]; simp only [Memref.view_whole, View.read_whole]
  ihave Ho := (Entails.of_eq ((pts_oRow (F := F) d L _).trans (out_lands d L X C _ eo))) $$ Ho'
  isplitl [HP Hc' Ho]
  · isplitl [HP]; · iexact HP
    isplitl [Hc']; · iexact Hc'
    iexact Ho
  isplitl [HC HX HO' Hbufs]
  · isplitl [HC]; · iexists _; iexact HC
    isplitl [HX]; · iexists _; iexact HX
    isplitl [HO']; · iexists _; iexact HO'
    iexact Hbufs
  isplitl [HF HA HB Hsems]
  · isplitl [HF]; · iexact HF
    isplitl [HA]; · iexact HA
    isplitl [HB]; · iexact HB
    iexact Hsems
  iexists _; isplitr; swap; · iexact Hw
  ipureintro; intro p hp
  rcases Finset.mem_insert.mp hp with hp | hp
  · exact .inr (hp ▸ rfl)
  · exact hW' p hp

/-! ## The launch theorem's obligation -/

/-- The grid position of vector subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather (coordsV c s)
          pV (Memref.isWhole_whole _) lV (Memref.isWhole_whole _) oV (Memref.isWhole_whole _) sC (Memref.isWhole_whole _) sX (Memref.isWhole_whole _)
            sO (Memref.isWhole_whole _) cc0_scratch3 cc0_scoped0 cc0_scoped1) ⟨⟩ c s := rfl

omit [FloatOps F] in
theorem obl_post {thr : Thread nD τ} {A B E : sProp 𝕄} {O : CellTallies nD τ sig (HIx 1)} {W : Waits sig (HIx 1)} {q : Fin 1} :
    iprop(A ∗ B ∗ E ∗ ∃ W', ⌜∀ p ∈ W', p ∈ W ∨ p.2 = none⌝ ∗ owes thr O W')
      ⊢ iprop(A ∗ B ∗ E ∗ ∃ W', ⌜∀ p ∈ W', p ∈ W ∨ p.2 = none ∨ p.2 = some q⌝ ∗ owes thr O W') := by
  iintro ⟨HA, HB, HE, %W', %hW', HO⟩
  isplitl [HA]; · iexact HA
  isplitl [HB]; · iexact HB
  isplitl [HE]; · iexact HE
  iexists W'; isplitr
  · ipureintro; exact fun p hp => (hW' p hp).imp_right Or.inl
  · iexact HO

variable (X : (d : Dev nD) → Buf (Elt F) (pLoc d)) (C : (d : Dev nD) → Buf (Elt F) (cLoc d)) (f₀ : (d : Dev nD) → Buf (Elt F) (oLoc d))

set_option maxRecDepth 16384 in
/-- Every tile's task, the classes being below 91. -/
theorem tileObl (hC : ∀ d p, (C d p : BitVec 32).toNat < 91) : (K (F := F)).TileObl (D (F := F)) 𝒱 (P X C f₀) v₀ 0 := by
  intro d c i O W hO _ _
  simp only [show (P X C f₀).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) (X d) (C d) (f₀ d) (hC d) O W hO).trans (wp_mono frame _ _ fun _ => obl_post)

end Cert.Proof.KernIdeal
-- ==== Proof.Ideal.TcBody.lean ====
/-
  The TensorCore part's body: one chain of selects over the ninety-one classes.

  From the classes' block and a block of four positions of the planes, the body leaves in the result's block, for
  each box, the value of the box's class. `Chosen k v` says this of the chain after the classes below `k`.
-/
module

public import proofs.«01_k».proof.Proof.Ideal.Setup
public import Idealize.ShloMosaic.Lib.Pointwise
public import Idealize.ShloMosaic.Lib.VecWindow

@[expose] public section

noncomputable section

namespace Cert.Proof.KernIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.TcCoe

variable {F : FTy → Type} [FloatOps F]

local notation "𝕄" => MT nD τ sig (HIx 1) (Elt F) ℕ UU ℕ

/-! ## The chain's value -/

/-- The index of class `c` at an index of the result's block. -/
def at4 (c : ℕ) (z : S4x8x100.Idx) : S91x4x8x100.Idx := fun
  | 0 => Fin.ofNat 91 c
  | 1 => z 0
  | 2 => z 1
  | 3 => z 2

/-- The box of an index of the result's block. -/
def box (z : S4x8x100.Idx) : S8x100.Idx := fun
  | 0 => z 1
  | 1 => z 2

/-- The result's block: each box's class's plane. -/
def chosen (cls : S8x100.Idx → BitVec 32) (G : S91x4x8x100.Idx → Elt F .f32) : S4x8x100.Idx → Elt F .f32 :=
  fun z => G (at4 (cls (box z)).toNat z)

/-- The value `v` is right at the boxes of a class below `k`. -/
def Chosen (cls : S8x100.Idx → BitVec 32) (G : S91x4x8x100.Idx → Elt F .f32) (k : ℕ) (v : S4x8x100.Idx → Elt F .f32) : Prop :=
  ∀ z, (cls (box z)).toNat < k → v z = G (at4 (cls (box z)).toNat z)

/-- The loaded block `r` is class `k`'s. -/
def IsRow (G : S91x4x8x100.Idx → Elt F .f32) (k : ℕ) (r : S1x4x8x100.Idx → Elt F .f32) : Prop :=
  ∀ z, shapeCast S4x8x100 r shapeCasts_S1x4x8x100_S4x8x100 z = G (at4 k z)

theorem chosen_first {cls : S8x100.Idx → BitVec 32} {G : S91x4x8x100.Idx → Elt F .f32} {r : S1x4x8x100.Idx → Elt F .f32} (hr : IsRow G 0 r) :
    Chosen cls G 1 (shapeCast S4x8x100 r shapeCasts_S1x4x8x100_S4x8x100) := by
  intro z hz
  rw [hr z, Nat.lt_one_iff.mp hz]

/-- The mask of class `k` at an index is the comparison at its box. -/
theorem mask_apply (c : IVec S8x100 1) (z : S4x8x100.Idx) :
    broadcastTo S4x8x100 (shapeCast S1x8x100 (shapeCast S1x8x100 c shapeCasts_S8x100_S1x8x100) shapeCasts_S1x8x100_S1x8x100) broadcasts_S1x8x100_S4x8x100 z
      = c (box z) := by
  have hz : box z = ix2 (z 1) (z 2) := by funext a; match a with | 0 => rfl | 1 => rfl
  rw [hz]
  pointwise

theorem chosen_step {cls : S8x100.Idx → BitVec 32} {G : S91x4x8x100.Idx → Elt F .f32} {k : ℕ} {r : S1x4x8x100.Idx → Elt F .f32} {v : S4x8x100.Idx → Elt F .f32}
    (hk : k < 2 ^ 32) (hr : IsRow G k r) (hv : Chosen cls G k v) :
    Chosen cls G (k + 1) (select (broadcastTo S4x8x100 (shapeCast S1x8x100 (shapeCast S1x8x100 (cmpi .eq cls (broadcast S8x100 (BitVec.ofNat 32 k)))
      shapeCasts_S8x100_S1x8x100) shapeCasts_S1x8x100_S1x8x100) broadcasts_S1x8x100_S4x8x100) (shapeCast S4x8x100 r shapeCasts_S1x4x8x100_S4x8x100) v) := by
  intro z hz
  unfold select
  rw [mask_apply]
  show Scalar.select (IntOp.cmpi .eq (cls (box z)) (BitVec.ofNat 32 k)) _ _ = _
  by_cases h : cls (box z) = BitVec.ofNat 32 k
  · have hn : (cls (box z)).toNat = k := by rw [h, BitVec.toNat_ofNat, Nat.mod_eq_of_lt hk]
    rw [hn, ← hr z, show IntOp.cmpi .eq (cls (box z)) (BitVec.ofNat 32 k) = 1#1 by rw [h]; simp [IntOp.cmpi]]
    rfl
  · have hn : (cls (box z)).toNat ≠ k := fun e => h (by rw [← e, BitVec.ofNat_toNat, BitVec.setWidth_eq])
    rw [show IntOp.cmpi .eq (cls (box z)) (BitVec.ofNat 32 k) = 0#1 from congrArg BitVec.ofBool (beq_false_of_ne h)]
    exact hv z (by omega)

/-! ## The body's run -/

/-- A load of class `k`'s block reads class `k`'s planes. -/
theorem isRow_read (M : Memref sig .tc .vmem S91x4x8x100 .f32) (f : M.view.ty.Contents (Elt F)) (k : ℕ) (hk : k < 91)
    (inb : ∀ a : Fin S91x4x8x100.rank, (![k, 0, 0, 0] : Fin 4 → ℕ) a + S1x4x8x100.size a ≤ S91x4x8x100.size a) :
    IsRow (M.view.read (Elt F) f) k (M.view.readAt (Elt F) (Rect.unit (s := S91x4x8x100) ![k, 0, 0, 0] S1x4x8x100.size inb).toLoadRect f) := by
  intro z
  refine (shapeCast_apply (s := S1x4x8x100) _ _ z (ix4 (0 : Fin 1) (z 0) (z 1) (z 2)) ?_).trans ?_
  · rw [Shape.rowMajor_val_four, Shape.rowMajor_val_three]
    show ((((0 : ℕ) * 4 + (z 0).val) * 8 + (z 1).val) * 100 + (z 2).val) = ((z 0).val * 8 + (z 1).val) * 100 + (z 2).val
    omega
  · rw [View.readAt_apply]
    refine congrArg (M.view.read (Elt F) f) (funext fun a => Fin.ext ?_)
    match a with
    | 0 => show k + 0 * 1 = k % 91; omega
    | 1 => exact (Nat.zero_add (1 * (z 0).val)).trans (Nat.one_mul _)
    | 2 => exact (Nat.zero_add (1 * (z 1).val)).trans (Nat.one_mul _)
    | 3 => exact (Nat.zero_add (1 * (z 2).val)).trans (Nat.one_mul _)

set_option maxHeartbeats 1000000 in
/-- The body, from the classes' block at `cls` and the planes' block at `G`, leaves the result's block at the chosen
    values, and the two operands' as they were. -/
theorem tc_body_wp (d : Dev nD) (i : grid1.Coords) (M1 : Memref sig .tc .vmem S8x100 .i32) (h1 : M1.IsWhole) (M2 : Memref sig .tc .vmem S91x4x8x100 .f32) (h2 : M2.IsWhole)
    (M3 : Memref sig .tc .vmem S4x8x100 .f32) (h3 : M3.IsWhole) (cls : S8x100.Idx → BitVec 32) (G : S91x4x8x100.Idx → Elt F .f32) (hcls : ∀ x, (cls x).toNat < 91)
    (E : Set ℕ) (Q : PUnit → sProp 𝕄) :
    iprop(owns (d : Thread nD τ) M1 fullShare cls ∗ owns (d : Thread nD τ) M2 fullShare G ∗ (∃ g, owns (d : Thread nD τ) M3 fullShare g)
        ∗ (iprop(owns (d : Thread nD τ) M1 fullShare cls ∗ owns (d : Thread nD τ) M2 fullShare G ∗ owns (d : Thread nD τ) M3 fullShare (chosen cls G)) -∗ Q ⟨⟩))
      ⊢ wp frame (wpE (defs₀ (F := F)) 𝒱₀ (d : Thread nD τ) none) E (cc1__tc_body i M1 h1 M2 h2 M3 h3) Q := by
  unfold owns
  rw [h1.set_eq_univ, h2.set_eq_univ, h3.set_eq_univ]
  iintro ⟨⟨%f1, %e1, H1⟩, ⟨%f2, %e2, H2⟩, ⟨%g, %f3, -, H3⟩, Hk⟩
  subst e1 e2
  sl_exec!
  sl_step
  iapply Hk
  isplitl [H1]; · iexists f1; isplitr; (· ipureintro; rfl); iexact H1
  isplitl [H2]; · iexists f2; isplitr; (· ipureintro; rfl); iexact H2
  iexists _; isplitr; swap; (· iexact H3)
  ipureintro
  delta tc_body_wp.sl.H3_1
  rw [View.read_writes_full]
  have hc : M1.view.readAt (Elt F) (Rect.unit (s := S8x100) ![0, 0] S8x100.size inb_S8x100_S8x100_0_0).toLoadRect f1 = M1.view.read (Elt F) f1 := by
    funext x
    rw [View.readAt_apply]
    refine congrArg (M1.view.read (Elt F) f1) (funext fun a => Fin.ext ?_)
    match a with
    | 0 => exact (Nat.zero_add (1 * (x 0).val)).trans (Nat.one_mul _)
    | 1 => exact (Nat.zero_add (1 * (x 1).val)).trans (Nat.one_mul _)
  rw [← hc] at hcls ⊢
  suffices h : Chosen (M1.view.readAt (Elt F) (Rect.unit (s := S8x100) ![0, 0] S8x100.size inb_S8x100_S8x100_0_0).toLoadRect f1) (M2.view.read (Elt F) f2) 91 (tc_body_wp.sl.v722 d M1 M2 f1 f2) from
    funext fun z => h z (hcls _)
  iterate 90 refine chosen_step (by decide) (isRow_read M2 f2 _ (by decide) _) ?_
  exact chosen_first (isRow_read M2 f2 0 (by decide) _)

end Cert.Proof.KernIdeal
-- ==== Proof.Ideal.Region.lean ====
/-
  The TensorCore's pipelined call: its proof data, its body obligation and its value.

  Entered with every array held at a valuation `V`, it leaves them at `V` except for its result, the first 304
  rows of the output, which holds `firstRows`: each box's class's plane.
-/
module

public import proofs.«01_k».proof.Proof.Ideal.TcBody
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.FrameBody
public import Idealize.ShloMosaic.Lib.Pipeline.ValueKit

@[expose] public section

noncomputable section

namespace Cert.Proof.KernIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.TcCoe
open Idealize.ShloMosaic.Pipeline (Dat Cfg Window BodyObligation cellOf)

variable {F : FTy → Type} [FloatOps F]

local notation "𝕄" => MT nD τ sig (HIx 1) (Elt F) ℕ UU ℕ

/-- The contents of the TensorCore's arrays. -/
abbrev Arrays (F : FTy → Type) [FloatOps F] : Type := (c : Dev nD) → (b : Ref sig .tc) → Buf (Elt F) ((c : Thread nD τ).loc b)

variable (W : Arrays F)

/-- The classes' block and the planes' block the body reads at a point. -/
abbrev clsAt (c : Dev nD) (t : Fin cfg1.N) : S8x100.Idx → BitVec 32 := ((cfg1.win 0).blk t).view.read (Elt F) (W c main_arg1)
abbrev planesAt (c : Dev nD) (t : Fin cfg1.N) : S91x4x8x100.Idx → Elt F .f32 := ((cfg1.win 1).blk t).view.read (Elt F) (W c main_v1)

/-- The box of an index of the result. -/
def boxOf (z : S304x8x100.Idx) : S8x100.Idx := fun
  | 0 => z 1
  | 1 => z 2

/-- The first 304 rows of the output, from the classes and the planes. -/
def firstRows (cls : S8x100.Idx → BitVec 32) (X : Vals.Planes.Idx → Elt F .f32) : S304x8x100.Idx → Elt F .f32 :=
  fun z => X (Vals.ix4 (cls (boxOf z)).toNat (z 0).val (z 1).val (z 2).val)

/-- What of the call's own memory no block uses (nothing, here): held over the whole loop. -/
abbrev heldOver (c : Dev nD) : sProp 𝕄 := Pipeline.scopedRest (Ix := HIx 1) (Name := ℕ) (U := UU) (Lvl := ℕ) spec1 c

/-- The call's proof data from the contents `W`: the operands' blocks stay, the result's is the chosen values;
    nothing is owed, and what was waited for before stays at or below level `n`. -/
def dat (n : ℕ) (c : Dev nD) : Dat τ (Elt F) (HIx 1) ℕ UU ℕ cfg1 c where
  A w := W c (Pipeline.arrRef spec1 w)
  after w t := match w with
    | ⟨0, _⟩ => clsAt W c t
    | ⟨1, _⟩ => planesAt W c t
    | ⟨2, _⟩ => chosen (clsAt W c t) (planesAt W c t)
  Φ _ := heldOver c
  q _ := fullShare
  owed _ := 0
  recorded _ := {p | (K (F := F)).lev ((c : Thread nD τ), p.1) p.2 ≤ n}

abbrev adm : (p : Fin 1) → (pcfgs (F := F) p).Adm := fun p => (cfgs p).toPCfg_adm

def pdats (n : ℕ) : (p : Fin 1) → (c : Dev nD) → Dat τ (Elt F) (HIx 1) ℕ UU ℕ (Pipeline.pin (pcfgs (F := F)) adm p) c
  | ⟨0, _⟩ => fun c => dat W n c

theorem before_cls (n : ℕ) (c : Dev nD) (t : Fin cfg1.N) (d : (cfg1.win 0).block.Idx → Elt F (cfg1.win 0).elt) : (dat W n c).before 0 t d = clsAt W c t :=
  ((dat W n c).before_in_eq_fetched 0 rfl (fun _ => rfl) (fun _ _ _ => rfl) (fun _ => rfl) t d).trans rfl
theorem before_planes (n : ℕ) (c : Dev nD) (t : Fin cfg1.N) (d : (cfg1.win 1).block.Idx → Elt F (cfg1.win 1).elt) : (dat W n c).before 1 t d = planesAt W c t :=
  ((dat W n c).before_in_eq_fetched 1 rfl (fun _ => rfl) (fun _ _ _ => rfl) (fun _ => rfl) t d).trans rfl

theorem body_obligation (n : ℕ) (c : Dev nD) (hcls : ∀ x, (W c main_arg1 x : BitVec 32).toNat < 91) :
    BodyObligation (dat W n c) (defs₀ (F := F)) 𝒱₀ (none : HIx 1) Set.univ := fun t => by
  rw [bigSep_W1, bigSep_W1]
  simp only [before_cls, before_planes]
  rw [show (dat W n c).owesAt (none : HIx 1) t.succ = (dat W n c).owesAt none t.castSucc from rfl,
    show (dat W n c).Φ t.succ = (dat W n c).Φ t.castSucc from rfl]
  change _ ⊢ wp _ _ _ (bodyAt1 t) _
  iintro ⟨HΦ, Howes, ⟨%d0, H0⟩, ⟨%d1, H1⟩, ⟨%d2, H2⟩⟩
  iapply (tc_body_wp c (grid1.coords t) _ (hstage1_0 ((cfg1.slots t 0).cast nbuf1_0)) _ (hstage1_1 ((cfg1.slots t 1).cast nbuf1_1)) _ (hstage1_2 ((cfg1.slots t 2).cast nbuf1_2)) (clsAt W c t) (planesAt W c t) (fun x => hcls _) Set.univ _)
  isplitl [H0]; · iexact H0
  isplitl [H1]; · iexact H1
  isplitl [H2]; · iexists _; iexact H2
  iintro ⟨H0, H1, H2⟩
  isplitl [HΦ]; · iexact HΦ
  isplitl [Howes]; · iexact Howes
  isplitl [H0]; · iexact H0
  isplitl [H1]; · iexact H1
  iexact H2

theorem out_value (n : ℕ) (c : Dev nD) (hcls : ∀ x, (W c main_arg1 x : BitVec 32).toNat < 91) : (dat W n c).arrAt 2 cfg1.N = firstRows (W c main_arg1) (W c main_v1) := by
  have e0 : ∀ t : Fin cfg1.N, win1_0.index t = ![0, 0] := (by decide +kernel : ∀ t : Fin grid1.N, _)
  have e1 : ∀ t : Fin cfg1.N, win1_1.index t = ![0, t.val, 0, 0] := (by decide +kernel : ∀ t : Fin grid1.N, _)
  have e2 : ∀ t : Fin cfg1.N, win1_2.index t = ![t.val, 0, 0] := (by decide +kernel : ∀ t : Fin grid1.N, _)
  refine (dat W n c).arrAt_eq_of_covers 2 _ (by decide +kernel) fun t hf y => ?_
  blk_simp
  show chosen (clsAt W c t) (planesAt W c t) y = _
  unfold chosen firstRows
  have f0 : ((win1_2.blk t).view.emb y 0).val = t.val * 4 + (y 0).val := by
    blk_simp [e2]
  have f1 : ((win1_2.blk t).view.emb y 1).val = (y 1).val := by
    blk_simp [e2]
  have f2 : ((win1_2.blk t).view.emb y 2).val = (y 2).val := by
    blk_simp [e2]
  have hc : clsAt W c t (box y) = W c main_arg1 (boxOf ((win1_2.blk t).view.emb y)) := by
    refine congrArg (W c main_arg1) (funext fun a => Fin.ext ?_)
    match a with
    | 0 =>
      refine Eq.trans ?_ f1.symm
      blk_simp [e0]
      rfl
    | 1 =>
      refine Eq.trans ?_ f2.symm
      blk_simp [e0]
      rfl
  rw [hc]
  refine congrArg (W c main_v1) (Vals.eq_ix4 _ _ _ _ _ ?_ ?_ ?_ ?_)
  · blk_simp [e1]
    exact Nat.mod_eq_of_lt (hcls _)
  · rw [f0]
    blk_simp [e1]
    rfl
  · rw [f1]
    blk_simp [e1]
    rfl
  · rw [f2]
    blk_simp [e1]
    rfl

/-- The TensorCore's arrays, all held. -/
def ucRefs : Finset (DevRef τ sig) := (StableHlo.tcRefs τ sig).filter fun b => ¬ b.isScoped

/-- The launch's arrays at a valuation are that set of references held at it. -/
theorem unscopedBufs_held (c : Dev nD) (V : Valuation τ sig (Elt F)) :
    (unscopedBufs c (fun b => V b) : sProp 𝕄) = StableHlo.held (c : Thread nD τ) ucRefs V := by
  unfold unscopedBufs StableHlo.held ucRefs StableHlo.tcRefs
  rw [Finset.filter_map, bigSep_map]
  rfl

-- the contents after the call: the result's array is `firstRows`, every other array is as before
variable (W' : Arrays F)

/-- The TensorCore owes nothing, and all it waited for before is at or below level `n`. -/
abbrev owesNone (n : ℕ) (c : Dev nD) : sProp 𝕄 :=
  iprop(∃ B, ⌜(K (F := F)).WBelow (c : Thread nD τ) B n⌝ ∗ owes (c : Thread nD τ) (0 : CellTallies nD τ sig (HIx 1)) B)

set_option backward.isDefEq.respectTransparency.types false in
/-- The call as a step of the TensorCore: from every array at `W` to every array at `W'`. -/
def reg (n : ℕ) (hcls : ∀ c x, (W c main_arg1 x : BitVec 32).toNat < 91)
    (hout : ∀ c, W' c main_v4 = firstRows (W c main_arg1) (W c main_v1)) (hne : ∀ c (b : Ref sig .tc), b ≠ main_v4 → W' c b = W c b) :
    Pipeline.RegionSeg (pcfgs (F := F)) adm (pdats W n) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation W n c (hcls c)).loose
  hwaits := Pipeline.hwaits_of_owed_zero _ _ _ _ _ _ 0 fun _ _ => rfl
  pre c := iprop(unscopedBufs c (W c) ∗ owesNone n c)
  post c := iprop(unscopedBufs c (W' c) ∗ owesNone n c)
  X _ := BI.emp
  Y _ := BI.emp
  Z c := iprop(Pipeline.unscopedRest (Ix := HIx 1) (Name := ℕ) (U := UU) (Lvl := ℕ) spec1 c (W c))
  hentry c := by
    rw [Pipeline.ownSems0_none]
    have hsplit := Pipeline.arrays_of_unscopedBufs (p := 0) (pcfgs (F := F)) adm (pdats W n) launch1.win launch1.arr_whole c
      ((pdats W n 0 c).share_full fun _ => rfl) (W c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%B, %hB, HO⟩; iexists B; isplitr; · ipureintro; exact fun p hp => Or.inl (hB p hp)
      iexact HO
    isplitr; · iempintro
    iexact Hrest
  hin c := by
    rw [show (pdats W n 0 c).Φ 0 = heldOver c from rfl]
    iintro ⟨-, -, Hr⟩; iexact Hr
  hout c := by
    rw [Pipeline.ownSems0_none, show (pdats W n 0 c).Φ (Fin.last _) = heldOver c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats W n) ((pdats W n 0 c).share_full fun _ => rfl) (W c) (W' c) ((pdats W n 0 c).arrAt · cfg1.N)
      (fun w => by
        fin_cases w
        · exact ((pdats W n 0 c).arrAt_in 0 rfl _).trans (hne c main_arg1 (by decide)).symm
        · exact ((pdats W n 0 c).arrAt_in 1 rfl _).trans (hne c main_v1 (by decide)).symm
        · exact (out_value W n c (hcls c)).trans (hout c).symm)
      (fun b hb => hne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%B, %hB, HO⟩; iexists B
    isplitr
    · ipureintro
      intro p hp
      rcases hB hp with h | ⟨w, s, e⟩
      · exact h
      · rw [e]; exact Nat.zero_le _
    iexact HO

end Cert.Proof.KernIdeal
-- ==== Proof.Ideal.RegionRun.lean ====
/-
  The TensorCore's pipelined call as the program makes it, among the SparseCore's calls.
-/
module

public import proofs.«01_k».proof.Proof.Ideal.Region

@[expose] public section

noncomputable section

namespace Cert.Proof.KernIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.TcCoe
open Idealize.ShloMosaic.Pipeline (Dat Cfg Window BodyObligation cellOf)

variable {F : FTy → Type} [FloatOps F]

local notation "𝕄" => MT nD τ sig (HIx 1) (Elt F) ℕ UU ℕ

/-- The state the launch deals device `d` for the pipelined call. -/
abbrev ghost (d : Dev nD) : sProp 𝕄 :=
  iprop(Pipeline.cellsGhost (Pipeline.pin (pcfgs (F := F)) adm) EP 0 d ∗ Pipeline.toksInit (Pipeline.pin (pcfgs (F := F)) adm) EP 0 d)

variable (W W' : Arrays F)

/-- From every array at `W` the call leaves every array at `W'`. -/
theorem region_wp [∀ e, Nonempty (Elt F e)] (P' : (K (F := F)).Pay (nD := nD) (Val := Elt F) (Name := ℕ) (U := UU)) (κ : GSem nD τ sig → ℕ) (n : ℕ) (hcls : ∀ c x, (W c main_arg1 x : BitVec 32).toNat < 91)
    (hout : ∀ c, W' c main_v4 = firstRows (W c main_arg1) (W c main_v1)) (hne : ∀ c (b : Ref sig .tc), b ≠ main_v4 → W' c b = W c b)
    (d : Dev nD) (Φ : PUnit → sProp 𝕄) :
    iprop((K (F := F)).ctx EH P' κ ∗ boundary (SparseCore.T d) ∗ unscopedBufs d (W d) ∗ owesNone (F := F) n d ∗ ghost d
        ∗ ((boundary (SparseCore.T d) ∗ unscopedBufs d (W' d) ∗ owesNone (F := F) n d) -∗ Φ ⟨⟩))
      ⊢ wp frame (wpE ((K (F := F)).defs (D (F := F))) 𝒱 (SparseCore.T d) none) Set.univ
          (Prog.lift (.customCall (SparseCore.inner (Pipeline.entry 0)) ())) Φ := by
  have hlift := (K (F := F)).wp_liftProg (D (F := F)) 𝒱 (SparseCore.T d) Set.univ none
    (Prog.lift (.customCall (Pipeline.entry 0) ())) Φ
  refine BIBase.Entails.trans ?_ hlift
  have hreg := (reg W W' n hcls hout hne).wp (pcfgs (F := F)) adm (pdats W n) none cellOf_inj EP defs₀ 𝒱₀ (K (F := F)).L (K (F := F)).lev d none (fun _ h => absurd h (Option.not_mem_none _)) (fun x => .ret x) Φ
  rw [show (reg W W' n hcls hout hne).pre d = iprop(unscopedBufs d (W d) ∗ owesNone n d) from rfl,
    show (reg W W' n hcls hout hne).post d = iprop(unscopedBufs d (W' d) ∗ owesNone n d) from rfl] at hreg
  iintro ⟨#Hctx, Hb, Hub, HO, ⟨Hg, Ht⟩, Hk⟩
  ihave Hlev := (SparseCore.Cfg.ctx_levAts κ) $$ Hctx
  iapply hreg
  isplitl [Hk]
  · iintro ⟨Hb, Hub, HO⟩
    rw [wp_ret]
    imodintro
    iapply Hk
    isplitl [Hb]; · iexact Hb
    isplitl [Hub]; · iexact Hub
    iexact HO
  isplitl [Hb]; · iexact Hb
  isplitl [Hub HO]
  · isplitl [Hub]; · iexact Hub
    iexact HO
  isplitl [Hlev]; · iexact Hlev
  isplitl [Hg]; · iexact Hg
  iexact Ht

end Cert.Proof.KernIdeal
-- ==== Proof.Ideal.Main.lean ====
/-
  The program's run: the host's reshapes, the vector subcores' call, the TensorCore's call, the host's reshapes.

  Every step takes all the arrays from one valuation to the next; the two calls are read as operations too, the one
  writing the last 480 rows of the output, the other the first 304.
-/
module

public import proofs.«01_k».proof.Proof.Ideal.Operands
public import proofs.«01_k».proof.Proof.Ideal.Tile
public import proofs.«01_k».proof.Proof.Ideal.RegionRun

@[expose] public section

noncomputable section

namespace Cert.Proof.KernIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within unary binary reshape)
open Idealize.ShloMosaic.Tactic
open Idealize.ShloMosaic.TcCoe

variable {F : FTy → Type} [FloatOps F]

local notation "𝕄" => MT nD τ sig (HIx 1) (Elt F) ℕ UU ℕ

/-! ## The steps, as operations -/

/-- The planes brought to the front. -/
abbrev stepFront : HloOp τ sig (Elt F) :=
  unary main_arg0 main_v0 ((transpose S91x28x28x8x100 [2, 3, 4, 0, 1] · transposes_S8x100x91x28x28_S91x28x28x8x100_2_3_4_0_1) : (⟨S8x100x91x28x28, .f32⟩ : BufTy).Contents (Elt F) → (⟨S91x28x28x8x100, .f32⟩ : BufTy).Contents (Elt F))
/-- Their two inner axes joined. -/
abbrev stepPlanes : HloOp τ sig (Elt F) := reshape main_v0 main_v1 (rfl : (.f32 : EltTy) = .f32) shapeCasts_S91x28x28x8x100_S91x784x8x100
/-- The classes in one list. -/
abbrev stepList : HloOp τ sig (Elt F) := reshape main_arg1 main_v2 (rfl : (.i32 : EltTy) = .i32) shapeCasts_S8x100_S800
/-- The vector subcores' call. -/
abbrev stepLast : HloOp τ sig (Elt F) :=
  binary main_v1 main_v2 main_v3 ((fun X C => Vals.rows X C 304 480) : (⟨S91x784x8x100, .f32⟩ : BufTy).Contents (Elt F) → (⟨S800, .i32⟩ : BufTy).Contents (Elt F) → (⟨S480x8x100, .f32⟩ : BufTy).Contents (Elt F))
/-- The TensorCore's call. -/
abbrev stepFirst : HloOp τ sig (Elt F) :=
  binary main_arg1 main_v1 main_v4 (firstRows : (⟨S8x100, .i32⟩ : BufTy).Contents (Elt F) → (⟨S91x784x8x100, .f32⟩ : BufTy).Contents (Elt F) → (⟨S304x8x100, .f32⟩ : BufTy).Contents (Elt F))
/-- The rows put together. -/
abbrev stepJoin : HloOp τ sig (Elt F) :=
  binary main_v4 main_v3 main_v5 ((fun a b => concatenate S784x8x100 0 [⟨S304x8x100, a⟩, ⟨S480x8x100, b⟩] concatenates_S304x8x100_S480x8x100_S784x8x100_d0) : (⟨S304x8x100, .f32⟩ : BufTy).Contents (Elt F) → (⟨S480x8x100, .f32⟩ : BufTy).Contents (Elt F) → (⟨S784x8x100, .f32⟩ : BufTy).Contents (Elt F))
/-- The positions in two axes again. -/
abbrev stepSplit : HloOp τ sig (Elt F) := reshape main_v5 main_v6 (rfl : (.f32 : EltTy) = .f32) shapeCasts_S784x8x100_S28x28x8x100
/-- The boxes brought to the front. -/
abbrev stepBack : HloOp τ sig (Elt F) :=
  unary main_v6 main_v7 ((transpose S8x100x28x28 [2, 3, 0, 1] · transposes_S28x28x8x100_S8x100x28x28_2_3_0_1) : (⟨S28x28x8x100, .f32⟩ : BufTy).Contents (Elt F) → (⟨S8x100x28x28, .f32⟩ : BufTy).Contents (Elt F))

variable (m : (ℓ : Loc nD τ sig) → Buf (Elt F) ℓ) (ρ : Dev nD → PrngReg)

/-- The arrays' contents at launch, before the vector subcores' call, after it, after the TensorCore's, and at the end. -/
def V0 (d : Dev nD) : Valuation τ sig (Elt F) := fun b => m (d, b)
def V3 (d : Dev nD) : Valuation τ sig (Elt F) := (stepList).result ((stepPlanes).result ((stepFront).result (V0 m d)))
def V4 (d : Dev nD) : Valuation τ sig (Elt F) := (stepLast).result (V3 m d)
def V5 (d : Dev nD) : Valuation τ sig (Elt F) := (stepFirst).result (V4 m d)
def V8 (d : Dev nD) : Valuation τ sig (Elt F) := (stepBack).result ((stepSplit).result ((stepJoin).result (V5 m d)))

/-- The planes the two calls read and the list of classes, from the arguments. -/
def planes (a : S8x100x91x28x28.Idx → Elt F .f32) : S91x784x8x100.Idx → Elt F .f32 :=
  shapeCast S91x784x8x100 (transpose S91x28x28x8x100 [2, 3, 4, 0, 1] a transposes_S8x100x91x28x28_S91x28x28x8x100_2_3_4_0_1) shapeCasts_S91x28x28x8x100_S91x784x8x100
def classList (cls : S8x100.Idx → BitVec 32) : S800.Idx → BitVec 32 := shapeCast S800 cls shapeCasts_S8x100_S800

/-- The rows of the output put together, in the shape of the result. -/
def rejoined (a : S304x8x100.Idx → Elt F .f32) (b : S480x8x100.Idx → Elt F .f32) : S8x100x28x28.Idx → Elt F .f32 :=
  transpose S8x100x28x28 [2, 3, 0, 1] (shapeCast S28x28x8x100 (concatenate S784x8x100 0 [⟨S304x8x100, a⟩, ⟨S480x8x100, b⟩] concatenates_S304x8x100_S480x8x100_S784x8x100_d0)
    shapeCasts_S784x8x100_S28x28x8x100) transposes_S28x28x8x100_S8x100x28x28_2_3_0_1

theorem V3_planes (d : Dev nD) : V3 m d main_v1 = planes (m ((SparseCore.T d).loc main_arg0)) := by
  unfold V3; after_results_simp; rfl
theorem V3_list (d : Dev nD) : V3 m d main_v2 = classList (m ((SparseCore.T d).loc main_arg1)) := by
  unfold V3; after_results_simp; rfl
theorem V4_arg1 (d : Dev nD) : V4 m d main_arg1 = m ((SparseCore.T d).loc main_arg1) := by
  unfold V4 V3; after_results_simp; rfl
theorem V8_arg0 (d : Dev nD) : V8 m d main_arg0 = m ((SparseCore.T d).loc main_arg0) := by
  unfold V8 V5 V4 V3; after_results_simp; rfl
theorem V8_arg1 (d : Dev nD) : V8 m d main_arg1 = m ((SparseCore.T d).loc main_arg1) := by
  unfold V8 V5 V4 V3; after_results_simp; rfl
theorem V8_out (d : Dev nD) : V8 m d main_v7 = rejoined (firstRows (m ((SparseCore.T d).loc main_arg1)) (planes (m ((SparseCore.T d).loc main_arg0))))
    (Vals.rows (planes (m ((SparseCore.T d).loc main_arg0))) (classList (m ((SparseCore.T d).loc main_arg1))) 304 480) := by
  unfold V8 V5 V4 V3; after_results_simp; rfl

end Cert.Proof.KernIdeal
-- ==== Proof.Ideal.Run.lean ====
/-
  The whole program from any launch memory whose classes are in range: it runs, the arguments stay, and the result
  is the rows the two calls write, put together.
-/
module

public import proofs.«01_k».proof.Proof.Ideal.Main

@[expose] public section

noncomputable section

namespace Cert.Proof.KernIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within unary binary reshape)
open Idealize.ShloMosaic.Tactic
open Idealize.ShloMosaic.TcCoe

variable {F : FTy → Type} [FloatOps F]

local notation "𝕄" => MT nD τ sig (HIx 1) (Elt F) ℕ UU ℕ

variable (m : (ℓ : Loc nD τ sig) → Buf (Elt F) ℓ) (ρ : Dev nD → PrngReg)

/-- Every class of the launch memory is in range. -/
def InRange : Prop := ∀ (d : Dev nD) x, (m ((SparseCore.T d).loc main_arg1) x : BitVec 32).toNat < 91

theorem list_lt (h : InRange m) (d : Dev nD) (p) : (V3 m d main_v2 p : BitVec 32).toNat < 91 := by
  rw [V3_list]
  exact h d _

/-- What the vector subcores' call carries. -/
abbrev PP : (K (F := F)).Pay (nD := nD) (Val := Elt F) (Name := ℕ) (U := UU) :=
  P (fun d => V3 m d main_v1) (fun d => V3 m d main_v2) (fun d => V3 m d main_v3)

/-! ## Pieces of the held arrays -/

/-- The arrays the vector subcores' call is handed, and those the claim speaks of. -/
def passed : Finset (DevRef τ sig) := {(main_v1 : DevRef τ sig), (main_v2 : DevRef τ sig), (main_v3 : DevRef τ sig)}
def named : Finset (DevRef τ sig) := {(main_arg0 : DevRef τ sig), (main_arg1 : DevRef τ sig), (main_v7 : DevRef τ sig)}

theorem passed_sub : passed ⊆ ucRefs := by decide
theorem named_sub : named ⊆ ucRefs := by decide

theorem front_sub : (stepFront (F := F)).bufs ⊆ ucRefs := by
  show ({(main_arg0 : DevRef τ sig), (main_v0 : DevRef τ sig)} : Finset (DevRef τ sig)) ⊆ ucRefs
  decide
theorem planes_sub : (stepPlanes (F := F)).bufs ⊆ ucRefs := by
  show ({(main_v0 : DevRef τ sig), (main_v1 : DevRef τ sig)} : Finset (DevRef τ sig)) ⊆ ucRefs
  decide
theorem list_sub : (stepList (F := F)).bufs ⊆ ucRefs := by
  show ({(main_arg1 : DevRef τ sig), (main_v2 : DevRef τ sig)} : Finset (DevRef τ sig)) ⊆ ucRefs
  decide
theorem join_sub : (stepJoin (F := F)).bufs ⊆ ucRefs := by
  show ({(main_v4 : DevRef τ sig), (main_v3 : DevRef τ sig), (main_v5 : DevRef τ sig)} : Finset (DevRef τ sig)) ⊆ ucRefs
  decide
theorem split_sub : (stepSplit (F := F)).bufs ⊆ ucRefs := by
  show ({(main_v5 : DevRef τ sig), (main_v6 : DevRef τ sig)} : Finset (DevRef τ sig)) ⊆ ucRefs
  decide
theorem back_sub : (stepBack (F := F)).bufs ⊆ ucRefs := by
  show ({(main_v6 : DevRef τ sig), (main_v7 : DevRef τ sig)} : Finset (DevRef τ sig)) ⊆ ucRefs
  decide

theorem held_passed (d : Dev nD) (V : Valuation τ sig (Elt F)) :
    (held (SparseCore.T d) passed V : sProp 𝕄) = iprop((pLoc d ↦{fullShare} V main_v1) ∗ (cLoc d ↦{fullShare} V main_v2) ∗ (oLoc d ↦{fullShare} V main_v3)) := by
  unfold held passed
  rw [SparseCore.bigSep_insert' (by decide), SparseCore.bigSep_insert' (by decide), bigSep_singleton]

theorem held_named (d : Dev nD) (V : Valuation τ sig (Elt F)) :
    (held (SparseCore.T d) named V : sProp 𝕄) = iprop(((SparseCore.T d).loc main_arg0 ↦{fullShare} V main_arg0) ∗ ((SparseCore.T d).loc main_arg1 ↦{fullShare} V main_arg1)
      ∗ ((SparseCore.T d).loc main_v7 ↦{fullShare} V main_v7)) := by
  unfold held named
  rw [SparseCore.bigSep_insert' (by decide), SparseCore.bigSep_insert' (by decide), bigSep_singleton]

theorem V4_ne (d : Dev nD) (b : DevRef τ sig) (h : b ≠ main_v3) : V4 m d b = V3 m d b :=
  HloOp.result_of_not_mem _ _ (by rw [StableHlo.binary_writes, Finset.mem_singleton]; exact h)
theorem V5_ne (d : Dev nD) (b : DevRef τ sig) (h : b ≠ main_v4) : V5 m d b = V4 m d b :=
  HloOp.result_of_not_mem _ _ (by rw [StableHlo.binary_writes, Finset.mem_singleton]; exact h)

theorem V4_last (d : Dev nD) : V4 m d main_v3 = delivered d (V3 m d main_v1) (V3 m d main_v2) := by
  unfold V4; after_results_simp
theorem V5_first (d : Dev nD) : V5 m d main_v4 = firstRows (V4 m d main_arg1) (V4 m d main_v1) := by
  unfold V5; after_results_simp

/-- What the call is handed is every tile's operands, -/
theorem st_eq (d : Dev nD) : (bigSep Finset.univ fun c : Fin ((K (F := F)).nCore 0) => (PP m).st 0 d c)
    = (allTiles d (V3 m d main_v1) (V3 m d main_v2) (V3 m d main_v3) : sProp 𝕄) := rfl
/-- and what it hands back is every tile's results. -/
theorem dn_eq (d : Dev nD) : (bigSep Finset.univ fun c : Fin ((K (F := F)).nCore 0) => (PP m).dn 0 d c)
    = (allTiles d (V3 m d main_v1) (V3 m d main_v2) (delivered d (V3 m d main_v1) (V3 m d main_v2)) : sProp 𝕄) := rfl

theorem give (d : Dev nD) : (held (SparseCore.T d) ucRefs (V3 m d) : sProp 𝕄)
    ⊢ iprop(allTiles d (V3 m d main_v1) (V3 m d main_v2) (V3 m d main_v3)
        ∗ kept d (V3 m d main_v1) (V3 m d main_v2) ∗ held (SparseCore.T d) (ucRefs \ passed) (V3 m d)) := by
  rw [held_sub_split _ passed_sub, held_passed]
  iintro ⟨H, Hr⟩
  ihave H := (tiles_split d _ _ _) $$ H
  icases H with ⟨Hk, Ht⟩
  isplitl [Ht]; · iexact Ht
  isplitl [Hk] <;> iassumption

theorem take (d : Dev nD) : iprop(allTiles d (V3 m d main_v1) (V3 m d main_v2) (delivered d (V3 m d main_v1) (V3 m d main_v2))
        ∗ kept d (V3 m d main_v1) (V3 m d main_v2) ∗ held (SparseCore.T d) (ucRefs \ passed) (V3 m d))
    ⊢ (held (SparseCore.T d) ucRefs (V4 m d) : sProp 𝕄) := by
  rw [held_sub_split _ passed_sub (V := V4 m d), held_passed, V4_last, V4_ne m d main_v1 (by decide), V4_ne m d main_v2 (by decide),
    held_congr (SparseCore.T d) (S := ucRefs \ passed) (V := V4 m d) (V' := V3 m d) fun b hb => V4_ne m d b fun h => (Finset.mem_sdiff.mp hb).2 (h ▸ by decide)]
  iintro ⟨Ht, Hk, Hr⟩
  isplitr [Hr]
  · iapply (tiles_join d _ _ _)
    isplitl [Hk] <;> iassumption
  iexact Hr

/-! ## The run -/

/-- The result, from the arguments. -/
def outOf (a : S8x100x91x28x28.Idx → Elt F .f32) (cls : S8x100.Idx → BitVec 32) : S8x100x28x28.Idx → Elt F .f32 :=
  rejoined (firstRows cls (planes a)) (Vals.rows (planes a) (classList cls) 304 480)

abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_v7 ↦{fullShare} outOf (m ((SparseCore.T d).loc main_arg0)) (m ((SparseCore.T d).loc main_arg1))))

theorem fin_of (d : Dev nD) : (held (SparseCore.T d) ucRefs (V8 m d) : sProp 𝕄) ⊢ FIN m d := by
  rw [held_sub_split _ named_sub, held_named, V8_arg0, V8_arg1, V8_out]
  iintro ⟨H, -⟩
  iexact H

/-- After the one call the TensorCore owes nothing: its state is that, and the rest. -/
theorem tcSt_one (d : Dev nD) : ∃ (n : ℕ) (R : sProp 𝕄), (K (F := F)).tcSt EH d 1 = iprop(owesNone (F := F) n d ∗ R) := by
  unfold SparseCore.Cfg.tcSt
  rw [(K (F := F)).Otc_end d (n := 1) le_rfl]
  exact ⟨_, _, rfl⟩

theorem hmain [∀ e, Nonempty (Elt F e)] (hr : InRange m) (κ : GSem nD τ sig → ℕ) (d : Dev nD) :
    iprop((K (F := F)).ctx EH (PP m) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨n, R, hn⟩ := tcSt_one (F := F) d
  unfold SparseCore.Cfg.tcRes SparseCore.Cfg.tcEnd
  rw [hn]
  rw [show (unscopedBufs d fun b => m ((SparseCore.T d).loc b) : sProp 𝕄) = held (SparseCore.T d) ucRefs (V0 m d) from unscopedBufs_held d (V0 m d)]
  simp only [main, wp_bind, wp_pure]
  iintro ⟨#Hctx, Hst, ⟨Hb, Hh, Hts, -⟩, HG⟩
  iapply (wp_hlo_within 𝒱 (SparseCore.T d) none Set.univ (op := stepFront) (S := ucRefs) front_sub) $$ [Hb Hh]
  · isplitl [Hb] <;> iassumption
  iintro ⟨Hb, Hh⟩
  rw [wp_ret]; imodintro
  iapply (wp_hlo_within 𝒱 (SparseCore.T d) none Set.univ (op := stepPlanes) (S := ucRefs) planes_sub) $$ [Hb Hh]
  · isplitl [Hb] <;> iassumption
  iintro ⟨Hb, Hh⟩
  rw [wp_ret]; imodintro
  iapply (wp_hlo_within 𝒱 (SparseCore.T d) none Set.univ (op := stepList) (S := ucRefs) list_sub) $$ [Hb Hh]
  · isplitl [Hb] <;> iassumption
  iintro ⟨Hb, Hh⟩
  rw [wp_ret]; imodintro
  rw [show (stepList (F := F)).result ((stepPlanes (F := F)).result ((stepFront (F := F)).result (V0 m d))) = V3 m d from rfl]
  ihave Hh := (give m d) $$ Hh
  icases Hh with ⟨Ht, Hk, Hr⟩
  iapply ((K (F := F)).wp_run (D (F := F)) 𝒱 (EH := EH) (P := PP m) κ d 0)
  isplitr; · iexact Hctx
  isplitl [Hst]; · iexact Hst
  isplitl [Ht]; · rw [st_eq]; iexact Ht
  iintro ⟨Hst, Hdn⟩
  ihave Hh := (take m d) $$ [Hdn Hk Hr]
  · isplitl [Hdn]; · iapply (Entails.of_eq (dn_eq m d)); iexact Hdn
    isplitl [Hk] <;> iassumption
  ihave Hst := (Entails.of_eq (show (K (F := F)).tcSt EH d ((0 : Fin 1).val + 1) = _ from hn)) $$ Hst
  icases Hst with ⟨HO, Hst⟩
  iapply (region_wp (fun c b => V4 m c b) (fun c b => V5 m c b) (PP m) κ n (fun c x => by rw [V4_arg1]; exact hr c x)
    (fun c => V5_first m c) (fun c b h => V5_ne m c b (StableHlo.devRef_ne_of_ne h)) d)
  isplitr; · iexact Hctx
  isplitl [Hb]; · iexact Hb
  isplitl [Hh]; · rw [unscopedBufs_held]; iexact Hh
  isplitl [HO]; · iexact HO
  isplitl [HG]; · iexact HG
  rw [unscopedBufs_held]
  iintro ⟨Hb, Hh, HO⟩
  iapply (wp_hlo_within 𝒱 (SparseCore.T d) none Set.univ (op := stepJoin) (S := ucRefs) join_sub) $$ [Hb Hh]
  · isplitl [Hb] <;> iassumption
  iintro ⟨Hb, Hh⟩
  rw [wp_ret]; imodintro
  iapply (wp_hlo_within 𝒱 (SparseCore.T d) none Set.univ (op := stepSplit) (S := ucRefs) split_sub) $$ [Hb Hh]
  · isplitl [Hb] <;> iassumption
  iintro ⟨Hb, Hh⟩
  rw [wp_ret]; imodintro
  iapply (wp_hlo_within 𝒱 (SparseCore.T d) none Set.univ (op := stepBack) (S := ucRefs) back_sub) $$ [Hb Hh]
  · isplitl [Hb] <;> iassumption
  iintro ⟨Hb, Hh⟩
  rw [wp_ret]; imodintro
  rw [show (stepBack (F := F)).result ((stepSplit (F := F)).result ((stepJoin (F := F)).result (V5 m d))) = V8 m d from rfl]
  ihave Hf := (fin_of m d) $$ Hh
  imodintro
  isplitl [HO Hst]
  · isplitl [HO]; · iexact HO
    iexact Hst
  isplitl [Hf]; · iexact Hf
  isplitl [Hb] <;> iassumption

end Cert.Proof.KernIdeal
-- ==== Proof.Ideal.Start.lean ====
/-
  The launch: what it deals, and the program's run from it.
-/
module

public import proofs.«01_k».proof.Proof.Ideal.Run

@[expose] public section

noncomputable section

namespace Cert.Proof.KernIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe

variable {F : FTy → Type} [FloatOps F]

local notation "𝕄" => MT nD τ sig (HIx 1) (Elt F) ℕ UU ℕ

variable (m : (ℓ : Loc nD τ sig) → Buf (Elt F) ℓ) (ρ : Dev nD → PrngReg)

/-- What the launch starts from: the handshakes' rounds and the pipelined call's. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

theorem ownU_two (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Nothing is dealt to the calls' bodies. -/
theorem no_extra : (bigSep Finset.univ fun thr : Thread nD τ => bigSep Finset.univ fun q : Fin 1 => (PP m).x q thr : sProp 𝕄) = iprop(emp) := by
  rw [show (bigSep Finset.univ fun thr : Thread nD τ => bigSep Finset.univ fun q : Fin 1 => (PP m).x q thr) = bigSep Finset.univ fun _ => iprop(emp) from
    bigSep_congr fun _ _ => bigSep_univ_of_subsingleton (0 : Fin 1)]
  exact bigSep_emp_const _

theorem ghosts : (iprop((bigSep Finset.univ fun c : Dev nD => bigSep Finset.univ fun p => Pipeline.cellsGhost (Pipeline.pin (pcfgs (F := F)) adm) EP p c)
      ∗ (bigSep Finset.univ fun c : Dev nD => bigSep Finset.univ fun p => Pipeline.toksInit (Pipeline.pin (pcfgs (F := F)) adm) EP p c)) : sProp 𝕄)
    ⊢ bigSep Finset.univ fun d : Dev nD => (ghost d : sProp 𝕄) := by
  rw [bigSep_sep']
  simp only [bigSep_univ_of_subsingleton (0 : Fin 1)]
  iintro H
  iexact H

theorem hu₀ : (ownU (u₀ (F := F)) : sProp 𝕄)
    ⊢ |={Set.univ}=> iprop(BI.own (EH (initOf (K (F := F)).hsCells (K (F := F)).hsToks)) ∗ (bigSep Finset.univ fun d : Dev nD => (ghost d : sProp 𝕄))
        ∗ bigSep Finset.univ fun thr : Thread nD τ => bigSep Finset.univ fun q : Fin 1 => (PP m).x q thr) := by
  rw [no_extra]
  unfold u₀
  iintro Hu
  ihave H := (ownU_two _ _) $$ Hu
  icases H with ⟨HH, HP⟩
  imod (Pipeline.fund_ghost (Pipeline.pin (pcfgs (F := F)) adm) EP cellOf_inj) $$ HP with ⟨Hg, Ht⟩
  imodintro
  isplitl [HH]; · iexact HH
  isplitl [Hg Ht]
  · iapply ghosts
    isplitl [Hg] <;> iassumption
  iempintro

/-- What the end leaves in the memory. -/
def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_v7) = outOf (m ((SparseCore.T d).loc main_arg0)) (m ((SparseCore.T d).loc main_arg1))

/-- An array held whole is the memory's. -/
theorem mem_eq (s' : Phys nD τ sig (Elt F)) (ℓ : Loc nD τ sig) (f : Buf (Elt F) ℓ) :
    iprop(SI s' ∗ (ℓ ↦{fullShare} f)) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  iexact HSI

theorem hfin (d : Dev nD) (s' : Phys nD τ sig (Elt F)) : iprop(FIN m d ∗ SI s') ⊢ (⌜fq m d s'⌝ : sProp 𝕄) := by
  iintro ⟨⟨H0, H1, H7⟩, HSI⟩
  ihave H := (mem_eq s' _ _) $$ [HSI H0]
  · isplitl [HSI] <;> iassumption
  icases H with ⟨%h0, HSI⟩
  ihave H := (mem_eq s' _ _) $$ [HSI H1]
  · isplitl [HSI] <;> iassumption
  icases H with ⟨%h1, HSI⟩
  ihave H := (mem_eq s' _ _) $$ [HSI H7]
  · isplitl [HSI] <;> iassumption
  icases H with ⟨%h7, HSI⟩
  ipureintro
  exact ⟨h0, h1, h7⟩

/-- What the run establishes: the arguments as they were, the result `outOf` of them, every semaphore at zero. -/
def Done : PUnit × MemSt nD τ sig (Elt F) → Prop := fun r =>
  (∀ d : Dev nD, r.2.mem ((SparseCore.T d).loc main_arg0) = m ((SparseCore.T d).loc main_arg0) ∧ r.2.mem ((SparseCore.T d).loc main_arg1) = m ((SparseCore.T d).loc main_arg1)
    ∧ r.2.mem ((SparseCore.T d).loc main_v7) = outOf (m ((SparseCore.T d).loc main_arg0)) (m ((SparseCore.T d).loc main_arg1))) ∧ r.2.sem = fun _ => 0

/-- The program runs, and leaves that. -/
theorem run_main [∀ e, Nonempty (Elt F e)] (hr : InRange m) :
    θ_run (Cert.KernelIdeal.defs (F := F)) (Cert.KernelIdeal.threads (F := F)) ⟨m, fun _ => 0, ρ⟩ (Done m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl _ _ _ (list_lt m hr))
    (fun q _ => match q with | 0 => SparseCore.Cfg.VecSplit.of_plain (vecSplit _ _ _))
    m ρ main ghost (FIN m) (u₀ (F := F)) (sep_elim_left.trans (hu₀ m)) (hmain m ρ hr) (fq m) (hfin m) (Done m) (fun _ h hz => ⟨h, hz⟩)

end Cert.Proof.KernIdeal
-- ==== Proof.Chosen.lean ====
/-
  The mathematics both programs are compared with: the mask of every box is the one of the box's class.
  The reference's gather is read here at an index, and the precondition as a bound on the classes.
-/
module

public import proofs.«01_k».proof.Defs
public import proofs.«01_k».proof.Proof.Gen.ReferenceIdeal
public import proofs.«01_k».proof.Proof.Gen.Pre_in_range
public import Idealize.ShloMosaic.Lib.Pointwise
public import Idealize.ShloMosaic.Lib.ReduceAll
public import Idealize.ShloMosaic.Lib.WordCmp
public import Idealize.ShloMosaic.Lib.ValueIdxCore

@[expose] public section

noncomputable section

namespace Cert.Proof.Chosen

open Idealize.ShloMosaic

abbrev Masks : Shape := ⟨5, ![8, 100, 91, 28, 28]⟩
abbrev Boxes : Shape := ⟨2, ![8, 100]⟩
abbrev Starts : Shape := ⟨3, ![8, 100, 3]⟩
abbrev Out : Shape := ⟨4, ![8, 100, 28, 28]⟩

/-- The multi-index of `Masks` with the given coordinates (each taken modulo its extent). -/
def ix5 (b n c y x : ℕ) : Masks.Idx := fun
  | 0 => Fin.ofNat 8 b
  | 1 => Fin.ofNat 100 n
  | 2 => Fin.ofNat 91 c
  | 3 => Fin.ofNat 28 y
  | 4 => Fin.ofNat 28 x

/-- A multi-index of `Masks` is the one with its coordinates. -/
theorem eq_ix5 (i : Masks.Idx) (b n c y x : ℕ) (hb : (i 0).val = b) (hn : (i 1).val = n) (hc : (i 2).val = c) (hy : (i 3).val = y)
    (hx : (i 4).val = x) : i = ix5 b n c y x := by
  funext a
  match a with
  | 0 => subst hb; exact Fin.ext (Nat.mod_eq_of_lt (i 0).isLt).symm
  | 1 => subst hn; exact Fin.ext (Nat.mod_eq_of_lt (i 1).isLt).symm
  | 2 => subst hc; exact Fin.ext (Nat.mod_eq_of_lt (i 2).isLt).symm
  | 3 => subst hy; exact Fin.ext (Nat.mod_eq_of_lt (i 3).isLt).symm
  | 4 => subst hx; exact Fin.ext (Nat.mod_eq_of_lt (i 4).isLt).symm

/-- The box of an element of the result. -/
def box (z : Out.Idx) : Boxes.Idx := fun
  | 0 => z 0
  | 1 => z 1

/-- The place of component `k` of the start index of an element of the result. -/
def startAt (z : Out.Idx) (k : Fin 3) : Starts.Idx := fun
  | 0 => z 0
  | 1 => z 1
  | 2 => k

variable {α : Type}

/-- The result the programs have to deliver: at box `(b, n)` the mask of the box's class. -/
def chosen (a : Masks.Idx → α) (cls : Boxes.Idx → BitVec 32) : Out.Idx → α :=
  fun z => a (ix5 (z 0).val (z 1).val (cls (box z)).toNat (z 2).val (z 3).val)

open Cert.ReferenceIdeal Cert.ReferenceIdeal.Gen in
/-- The gather's dimension numbers. -/
abbrev dims := gather_S8x100x91x28x28_S8x100x3_S8x100x28x28_23_012_n_n_012_2_1112828

/-- The slice's start along one of the first three axes is the start index's component, clamped. -/
theorem start_lead (z : Out.Idx) (idx : IVec Starts 32) (k : Fin 3) (a : Fin 5) (ha : a.val = k.val) :
    dims.start z idx a = min (idx (startAt z k)).toInt.toNat (Masks.size a - 1) := by
  obtain rfl : a = Fin.castLE (by decide) k := Fin.ext ha
  have hm : Fin.castLE (by decide) k ∈ dims.startIndexMap := by revert k; decide
  have hs : dims.siIdx z ⟨dims.startIndexMap.idxOf (Fin.castLE (by decide) k), List.idxOf_lt_length_iff.2 hm⟩ = startAt z k := by
    funext b
    refine Fin.ext ?_
    match b with
    | 0 => rfl
    | 1 => rfl
    | 2 => match k with | 0 | 1 | 2 => rfl
  have hl : dims.sliceSizes (Fin.castLE (by decide) k) = 1 := by clear hs hm ha; revert k; decide
  unfold GatherDims.start
  rw [dif_pos hm, hs, hl]

/-- The gather at an index whose start indices are in range. -/
theorem gather_at (a : Masks.Idx → α) (idx : IVec Starts 32) (z : Out.Idx) (c : ℕ) (hc : c < 91)
    (h0 : (idx (startAt z 0)).toInt = (z 0).val) (h1 : (idx (startAt z 1)).toInt = (z 1).val) (h2 : (idx (startAt z 2)).toInt = c) :
    Host.gather dims a idx z = a (ix5 (z 0).val (z 1).val c (z 2).val (z 3).val) := by
  have l0 : (z 0).val < 8 := (z 0).isLt
  have l1 : (z 1).val < 100 := (z 1).isLt
  unfold Host.gather
  refine congrArg a (eq_ix5 _ _ _ _ _ _ ?_ ?_ ?_ ?_ ?_)
  · show dims.start z idx 0 + dims.batchCoord z 0 + dims.offCoord z 0 = _
    rw [start_lead z idx 0 0 rfl, h0, GatherDims.batchCoord_eq_zero _ _ _ List.not_mem_nil, GatherDims.offCoord_eq_zero _ _ _ (by decide)]
    show min ((z 0).val : ℤ).toNat 7 + 0 + 0 = _
    omega
  · show dims.start z idx 1 + dims.batchCoord z 1 + dims.offCoord z 1 = _
    rw [start_lead z idx 1 1 rfl, h1, GatherDims.batchCoord_eq_zero _ _ _ List.not_mem_nil, GatherDims.offCoord_eq_zero _ _ _ (by decide)]
    show min ((z 1).val : ℤ).toNat 99 + 0 + 0 = _
    omega
  · show dims.start z idx 2 + dims.batchCoord z 2 + dims.offCoord z 2 = _
    rw [start_lead z idx 2 2 rfl, h2, GatherDims.batchCoord_eq_zero _ _ _ List.not_mem_nil, GatherDims.offCoord_eq_zero _ _ _ (by decide)]
    show min (c : ℤ).toNat 90 + 0 + 0 = _
    omega
  · show dims.start z idx 3 + dims.batchCoord z 3 + dims.offCoord z 3 = _
    rw [GatherDims.batchCoord_eq_zero _ _ _ List.not_mem_nil, show dims.start z idx 3 = 0 from dif_neg (by decide)]
    show 0 + 0 + dims.offCoord z 3 = _
    rw [Nat.zero_add]
    rfl
  · show dims.start z idx 4 + dims.batchCoord z 4 + dims.offCoord z 4 = _
    rw [GatherDims.batchCoord_eq_zero _ _ _ List.not_mem_nil, show dims.start z idx 4 = 0 from dif_neg (by decide)]
    rw [Nat.zero_add]
    rfl

/-- The precondition says that every class is below 91. -/
theorem lt_of_pre {F : FTy → Type} [FloatOps F] (a : Masks.Idx → F .f32) (cls : Boxes.Idx → BitVec 32)
    (h : Cert.Pre_in_range.fn (F := F) a cls = fun _ => 1#1) (i : Boxes.Idx) : (cls i).toNat < 91 := by
  have e := congrFun h (Shape.Idx.first Cert.Pre_in_range.Facts.h_S_)
  unfold Cert.Pre_in_range.fn at e
  haveI : Subsingleton Cert.Pre_in_range.S_.Idx := ⟨fun x y => funext fun a => a.elim0⟩
  have e' := Host.reduce_andi_all _ _ _ _ _ e i
  have e'' : IntOp.andi (IntOp.cmpi .sge (cls i) 0#32) (IntOp.cmpi .slt (cls i) (BitVec.ofNat 32 91)) = 1#1 := e'
  rw [WordCmp.andi_sge_zero_slt_ofNat (by norm_num)] at e''
  exact (WordCmp.ofBool_decide_eq_one_iff _).mp e''

end Cert.Proof.Chosen
-- ==== Proof.Ideal.Value.lean ====
/-
  The result the kernel's run leaves is the chosen masks, element by element.

  Element `(b, n, y, x)` of the result is row `28·y + x` of the output planes at box `(b, n)`; a row below 304 is the
  vector unit's, the others are the vector subcores', and either is the mask of the box's class at `(y, x)`.
-/
module

public import proofs.«01_k».proof.Proof.Ideal.Run
public import proofs.«01_k».proof.Proof.Chosen
public import Idealize.ShloMosaic.Lib.Pipeline.Value

@[expose] public section

noncomputable section

namespace Cert.Proof.KernIdeal

open Cert.KernelIdeal Cert.KernelIdeal.Gen Idealize.ShloMosaic
open Cert.Proof.Chosen (ix5)

variable {F : FTy → Type} [FloatOps F]

/-- The planes, read at a class, a row and a box, are the masks there. -/
theorem planes_at (a : S8x100x91x28x28.Idx → Elt F .f32) (c y x b n : ℕ) (hc : c < 91) (hy : y < 28) (hx : x < 28) (hb : b < 8) (hn : n < 100) :
    planes a (Vals.ix4 c (28 * y + x) b n) = a (ix5 b n c y x) := by
  unfold planes
  refine (shapeCast_apply (s := S91x28x28x8x100) _ _ _ (fun | 0 => ⟨c, hc⟩ | 1 => ⟨y, hy⟩ | 2 => ⟨x, hx⟩ | 3 => ⟨b, hb⟩ | 4 => ⟨n, hn⟩) ?_).trans ?_
  · rw [Shape.rowMajor_val_five, Shape.rowMajor_val_four]
    show (((c * 28 + y) * 28 + x) * 8 + b) * 100 + n = ((c % 91 * 784 + (28 * y + x) % 784) * 8 + b % 8) * 100 + n % 100
    rw [Nat.mod_eq_of_lt hc, Nat.mod_eq_of_lt (show 28 * y + x < 784 by omega), Nat.mod_eq_of_lt hb, Nat.mod_eq_of_lt hn]
    omega
  · refine transpose_apply _ _ _ _ _ fun i => ?_
    match i with
    | 0 => exact Nat.mod_eq_of_lt hc
    | 1 => exact Nat.mod_eq_of_lt hy
    | 2 => exact Nat.mod_eq_of_lt hx
    | 3 => exact Nat.mod_eq_of_lt hb
    | 4 => exact Nat.mod_eq_of_lt hn

/-- The list of classes, read at `100·b + n`, is the class of box `(b, n)`. -/
theorem classList_at (cls : S8x100.Idx → BitVec 32) (i : S8x100.Idx) :
    classList cls (Vals.ix1 (100 * (i 0).val + (i 1).val)) = cls i := by
  have l0 : (i 0).val < 8 := (i 0).isLt
  have l1 : (i 1).val < 100 := (i 1).isLt
  unfold classList
  refine shapeCast_apply (s := S8x100) _ _ _ i ?_
  rw [Shape.rowMajor_val_two, Shape.rowMajor_val_one]
  show (i 0).val * 100 + (i 1).val = (100 * (i 0).val + (i 1).val) % 800
  omega

/-- The row of the output planes that holds an element of the result. -/
abbrev rowOf (z : S8x100x28x28.Idx) : ℕ := 28 * (z 2).val + (z 3).val

/-- The rows put together, read at an element of the result, are the concatenation at the element's row and box. -/
theorem rejoined_at (u : S304x8x100.Idx → Elt F .f32) (v : S480x8x100.Idx → Elt F .f32) (z : S8x100x28x28.Idx) (h : rowOf z < 784) :
    rejoined u v z = concatenate S784x8x100 0 [⟨S304x8x100, u⟩, ⟨S480x8x100, v⟩] concatenates_S304x8x100_S480x8x100_S784x8x100_d0
      (fun | 0 => ⟨rowOf z, h⟩ | 1 => z 0 | 2 => z 1) := by
  unfold rejoined
  refine (transpose_apply (s := S28x28x8x100) (t := S8x100x28x28) _ _ _ _ (fun | 0 => z 2 | 1 => z 3 | 2 => z 0 | 3 => z 1) fun i => ?_).trans ?_
  · match i with | 0 | 1 | 2 | 3 => rfl
  · refine shapeCast_apply (s := S784x8x100) _ _ _ _ ?_
    rw [Shape.rowMajor_val_three, Shape.rowMajor_val_four]
    show ((28 * (z 2).val + (z 3).val) * 8 + (z 0).val) * 100 + (z 1).val = (((z 2).val * 28 + (z 3).val) * 8 + (z 0).val) * 100 + (z 1).val
    omega

/-- The rows put together, read at an element whose row is below 304. -/
theorem rejoined_first (u : S304x8x100.Idx → Elt F .f32) (v : S480x8x100.Idx → Elt F .f32) (z : S8x100x28x28.Idx) (h : rowOf z < 304) :
    rejoined u v z = u (fun | 0 => ⟨rowOf z, h⟩ | 1 => z 0 | 2 => z 1) := by
  rw [rejoined_at u v z (by omega)]
  refine (concatenate_pair_apply ..).trans ((dif_pos h).trans (congrArg u (funext fun i => ?_)))
  match i with | 0 | 1 | 2 => rfl

/-- The rows put together, read at an element whose row is 304 or above. -/
theorem rejoined_last (u : S304x8x100.Idx → Elt F .f32) (v : S480x8x100.Idx → Elt F .f32) (z : S8x100x28x28.Idx) (h : ¬rowOf z < 304)
    (h' : rowOf z - 304 < 480) :
    rejoined u v z = v (fun | 0 => ⟨rowOf z - 304, h'⟩ | 1 => z 0 | 2 => z 1) := by
  rw [rejoined_at u v z (by omega)]
  refine (concatenate_pair_apply ..).trans ((dif_neg h).trans (congrArg v (funext fun i => ?_)))
  match i with | 0 | 1 | 2 => rfl

/-- THE VALUE: what the run leaves is the chosen masks. -/
theorem outOf_eq (a : S8x100x91x28x28.Idx → Elt F .f32) (cls : S8x100.Idx → BitVec 32) (hr : ∀ i, (cls i).toNat < 91) :
    outOf a cls = Chosen.chosen a cls := by
  funext z
  have l0 : (z 0).val < 8 := (z 0).isLt
  have l1 : (z 1).val < 100 := (z 1).isLt
  have l2 : (z 2).val < 28 := (z 2).isLt
  have l3 : (z 3).val < 28 := (z 3).isLt
  have hat := planes_at a (cls (Chosen.box z)).toNat (z 2).val (z 3).val (z 0).val (z 1).val (hr _) l2 l3 l0 l1
  unfold outOf
  by_cases h : rowOf z < 304
  · rw [rejoined_first _ _ _ h]
    unfold firstRows
    refine Eq.trans ?_ hat
    have e : boxOf (fun | 0 => ⟨rowOf z, h⟩ | 1 => z 0 | 2 => z 1) = Chosen.box z := by
      funext i; match i with | 0 | 1 => rfl
    rw [e]
  · rw [rejoined_last _ _ _ h (by unfold rowOf; omega)]
    unfold Vals.rows Vals.pick
    refine Eq.trans ?_ hat
    show planes a (Vals.ix4 (classList cls (Vals.ix1 (100 * (Chosen.box z 0).val + (Chosen.box z 1).val))).toNat (304 + (rowOf z - 304)) (z 0).val (z 1).val) = _
    rw [classList_at, show 304 + (rowOf z - 304) = rowOf z by omega]

end Cert.Proof.KernIdeal
-- ==== Proof.Expected.lean ====
/-
  The reference's run, read as the chosen masks: the gather's start index at box `(b, n)` is `(b, n, class)`, every
  component already in range, so that the reference's handling of negative indices and the clamp change nothing.
-/
module

public import proofs.«01_k».proof.Proof.Chosen
public import proofs.«01_k».proof.Proof.Gen.ReferenceIdeal.Run

@[expose] public section

noncomputable section

namespace Cert.Proof.Chosen

open Cert.ReferenceIdeal Cert.ReferenceIdeal.Gen Idealize.ShloMosaic Idealize.ShloMosaic.TcCoe Idealize.SL.Sem

/-- The wrap of a negative index changes nothing at a word below half the range. -/
theorem wrap_small (w k : BitVec 32) (hw : w.toNat < 100) : Scalar.select (IntOp.cmpi .slt w 0#32) (IntOp.addi w k) w = w := by
  rw [WordCmp.cmpi_slt_zero, decide_eq_false (by omega)]
  rfl

/-- Such a word, read signed, is its value. -/
theorem toInt_small (w : BitVec 32) (hw : w.toNat < 100) : w.toInt = w.toNat := by
  rw [BitVec.toInt_eq_toNat_cond, if_pos (by omega)]

/-- The place in a column of the start index of an element of the result. -/
def inColumn (z : Out.Idx) : S8x100x1.Idx := fun
  | 0 => z 0
  | 1 => z 1
  | 2 => (0 : Fin 1)

/-- Three columns side by side are, at component `k`, column `k`. -/
theorem column (u v w : IVec S8x100x1 32) (h : Shape.Concatenates [S8x100x1, S8x100x1, S8x100x1] S8x100x3 2) (z : Out.Idx) (k : Fin 3) :
    concatenate S8x100x3 2 [⟨S8x100x1, u⟩, ⟨S8x100x1, v⟩, ⟨S8x100x1, w⟩] h (startAt z k)
      = (![u, v, w] : Fin 3 → IVec S8x100x1 32) k (inColumn z) := by
  rw [concatenate_cons_apply]
  match k with
  | 0 =>
    refine (concatenateAt_cons ..).trans ((dif_pos (show (0 : ℕ) < 1 by omega)).trans ?_)
    exact congrArg u (funext fun b => Fin.ext (match b with | 0 | 1 | 2 => rfl))
  | 1 =>
    refine (concatenateAt_cons ..).trans ((dif_neg (show ¬(1 : ℕ) < 1 by omega)).trans ?_)
    refine (concatenateAt_cons ..).trans ((dif_pos (show (0 : ℕ) < 1 by omega)).trans ?_)
    exact congrArg v (funext fun b => Fin.ext (match b with | 0 | 1 | 2 => rfl))
  | 2 =>
    refine (concatenateAt_cons ..).trans ((dif_neg (show ¬(2 : ℕ) < 1 by omega)).trans ?_)
    refine (concatenateAt_cons ..).trans ((dif_neg (show ¬(1 : ℕ) < 1 by omega)).trans ?_)
    refine (concatenateAt_singleton ..).trans ?_
    exact congrArg w (funext fun b => Fin.ext (match b with | 0 | 1 | 2 => rfl))

/-- The last column is what component 2 reads. -/
theorem column_last (u v w : IVec S8x100x1 32) (h : Shape.Concatenates [S8x100x1, S8x100x1, S8x100x1] S8x100x3 2) (z : Out.Idx) :
    concatenate S8x100x3 2 [⟨S8x100x1, u⟩, ⟨S8x100x1, v⟩, ⟨S8x100x1, w⟩] h (startAt z 2) = w (inColumn z) := column u v w h z 2

/-- An array over the boxes made a column reads, at an element of the result, the element's box. -/
theorem spread (v : IVec S8x100 32) (h : S8x100.BroadcastsInDim S8x100x1 ![0, 1]) (z : Out.Idx) :
    broadcastInDim S8x100x1 ![0, 1] h v (inColumn z) = v (box z) := by
  refine congrArg v (funext fun a => Fin.ext ?_)
  match a with | 0 | 1 => rfl

variable {F : FTy → Type} [FloatOps F]

/-- The reference runs, delivers the chosen masks and leaves its arguments as they were. -/
theorem run_chosen (m : (ℓ : Loc nD τ sig) → Buf (Elt F) ℓ) (ρ : Dev nD → PrngReg)
    (hr : ∀ (c : Dev nD) x, (m ((c.tc : Thread nD τ).loc main_arg1) x : BitVec 32).toNat < 91) :
    θ_run (defs (F := F)) (onTc (τ := τ) (main (F := F))) ⟨m, fun _ => 0, ρ⟩ fun r => ∀ c : Dev nD,
      r.2.mem ((c.tc : Thread nD τ).loc main_v31) = chosen (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans ?_, (h c).2⟩) (Value.run m ρ)
  funext z
  have l0 : (z 0).val < 8 := (z 0).isLt
  have l1 : (z 1).val < 100 := (z 1).isLt
  have hc := hr c (box z)
  have w0 : (BitVec.ofNat 32 (z 0).val * 1#32).toNat = (z 0).val := by
    rw [BitVec.mul_one, BitVec.toNat_ofNat]; omega
  have w1 : (BitVec.ofNat 32 (z 1).val * 1#32).toNat = (z 1).val := by
    rw [BitVec.mul_one, BitVec.toNat_ofNat]; omega
  refine gather_at _ _ z _ hc ?_ ?_ ?_
  · refine (congrArg BitVec.toInt (column _ _ _ _ z 0)).trans ?_
    refine (congrArg BitVec.toInt (show _ = Scalar.select (IntOp.cmpi .slt (BitVec.ofNat 32 (z 0).val * 1#32) 0#32) (IntOp.addi (BitVec.ofNat 32 (z 0).val * 1#32) 8#32) (BitVec.ofNat 32 (z 0).val * 1#32) from rfl)).trans ?_
    rw [wrap_small _ _ (by omega), toInt_small _ (by omega), w0]
  · refine (congrArg BitVec.toInt (column _ _ _ _ z 1)).trans ?_
    refine (congrArg BitVec.toInt (show _ = Scalar.select (IntOp.cmpi .slt (BitVec.ofNat 32 (z 1).val * 1#32) 0#32) (IntOp.addi (BitVec.ofNat 32 (z 1).val * 1#32) 100#32) (BitVec.ofNat 32 (z 1).val * 1#32) from rfl)).trans ?_
    rw [wrap_small _ _ (by omega), toInt_small _ (by omega), w1]
  · refine (congrArg BitVec.toInt (column_last _ _ _ _ z)).trans ?_
    refine (congrArg BitVec.toInt (spread _ _ z)).trans ?_
    refine (congrArg BitVec.toInt (show _ = Scalar.select (IntOp.cmpi .slt (m ((c.tc : Thread nD τ).loc main_arg1) (box z)) 0#32) (IntOp.addi (m ((c.tc : Thread nD τ).loc main_arg1) (box z)) 91#32) (m ((c.tc : Thread nD τ).loc main_arg1) (box z)) from rfl)).trans ?_
    rw [wrap_small _ _ (by omega), toInt_small _ (by omega)]

end Cert.Proof.Chosen
-- ==== Proof.lean ====
/-
  The certificate: the kernel's frame over the words and over the extended reals, the reference's frame, and the
  equality of the two programs' results. Each kernel frame is the run of `Start` with the result forgotten; the equality
  is that run read at the chosen masks, which the reference's run delivers too.
-/
module

public import proofs.«01_k».proof.Defs
public import proofs.«01_k».proof.Proof.Start
public import proofs.«01_k».proof.Proof.Ideal.Start
public import proofs.«01_k».proof.Proof.Ideal.Value
public import proofs.«01_k».proof.Proof.Expected
public import Idealize.ShloMosaic.Lib.Quiescent

@[expose] public section

noncomputable section

namespace Cert.Proof

open Idealize.ShloMosaic Idealize.SL.Sem

/-- The kernel runs, leaves its arguments and ends with every semaphore at zero. -/
theorem frame_kernel : Cert.quiescent_Kernel := fun m g hp =>
  (θ_run _ _ _).mono (fun _ h => ⟨fun c => ⟨(h.1 c).1, (h.1 c).2.1⟩, h.2⟩)
    (Kern.run_main (F := Bits) m g fun d x => Chosen.lt_of_pre _ _ (hp d) x)

/-- The same over the extended reals. -/
theorem frame_ideal : Cert.quiescent_KernelIdeal := fun m g hp =>
  (θ_run _ _ _).mono (fun _ h => ⟨fun c => ⟨(h.1 c).1, (h.1 c).2.1⟩, h.2⟩)
    (KernIdeal.run_main (F := Ideal) m g fun d x => Chosen.lt_of_pre _ _ (hp d) x)

/-- The reference runs and leaves its arguments; it has no semaphore. -/
theorem frame_reference : Cert.quiescent_ReferenceIdeal := fun m g _ =>
  (θ_run _ _ _).mono (fun _ h => ⟨fun c => (h c).2, sem_eq_zero_of_no_sems (by decide) _⟩)
    (Cert.ReferenceIdeal.Value.run (F := Ideal) m g)

/-- Under the precondition in particular. -/
theorem frame_reference_in_range : Cert.quiescent_ReferenceIdeal_pre_in_range := fun m g _ => frame_reference m g True.intro

/-- From the same arguments the kernel and the reference leave the same result. -/
theorem same_result : Cert.algebraic_KernelIdeal_ReferenceIdeal := fun m g m' g' hp he => by
  have hr : KernIdeal.InRange (F := Ideal) m := fun d x => Chosen.lt_of_pre _ _ (hp d) x
  refine ⟨fun c => Chosen.chosen (m ((SparseCore.T c).loc Cert.KernelIdeal.main_arg0)) (m ((SparseCore.T c).loc Cert.KernelIdeal.main_arg1)), ?_, ?_⟩
  · refine (θ_run _ _ _).mono (fun _ h c => ⟨(h.1 c).2.2.trans ?_, (h.1 c).1, (h.1 c).2.1⟩) (KernIdeal.run_main (F := Ideal) m g hr)
    exact KernIdeal.outOf_eq _ _ (hr c)
  · refine (θ_run _ _ _).mono (fun _ h c => ⟨(h c).1.trans (congrArg₂ Chosen.chosen (he c).1 (he c).2), (h c).2⟩)
      (Chosen.run_chosen (F := Ideal) m' g' fun c x => ?_)
    exact (congrArg (fun v => BitVec.toNat (v x)) (he c).2).trans_lt (hr c x)

/-- All five claims; no operation was replaced, so that the kernel's idealization has nothing to preserve. -/
theorem claim : Cert.Claim := ⟨Cert.Kernel.Gen.facts, Cert.KernelIdeal.Gen.facts, Cert.ReferenceIdeal.Gen.facts, Cert.Pre_in_range.Gen.facts,
  frame_kernel, frame_ideal, frame_reference, frame_reference_in_range, trivial, same_result⟩

end Cert.Proof

end
